-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1024x8192 : Shape := ⟨2, ![1024, 8192]⟩
abbrev S3x1024x1024 : Shape := ⟨3, ![3, 1024, 1024]⟩
abbrev S4x1024x1024 : Shape := ⟨3, ![4, 1024, 1024]⟩
abbrev S2x1024x1024 : Shape := ⟨3, ![2, 1024, 1024]⟩
abbrev S4x8x128 : Shape := ⟨3, ![4, 8, 128]⟩
abbrev S2 : Shape := ⟨1, ![2]⟩
abbrev S3 : Shape := ⟨1, ![3]⟩
abbrev S4 : Shape := ⟨1, ![4]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x1x1 : Shape := ⟨3, ![1, 1, 1]⟩
abbrev S8x128 : Shape := ⟨2, ![8, 128]⟩
abbrev S1x8x128 : Shape := ⟨3, ![1, 8, 128]⟩
abbrev S1x4x8x128 : Shape := ⟨4, ![1, 4, 8, 128]⟩
abbrev S1x1x1x1 : Shape := ⟨4, ![1, 1, 1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S1024x8192, .f32⟩
  | .local _ .vmem, ⟨0, _⟩ => ⟨S3x1024x1024, .bf16⟩
  | .local _ .vmem, ⟨1, _⟩ => ⟨S4x1024x1024, .bf16⟩
  | .local _ .vmem, ⟨2, _⟩ => ⟨S1024x8192, .f32⟩
  | .local _ .vmem, ⟨3, _⟩ => ⟨S2x1024x1024, .f32⟩
  | .local _ .vmem, ⟨4, _⟩ => ⟨S4x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c0_i32 : BitVec 32 := 0#32
  let v5 : BitVec 1 := Scalar.cmpi .eq v4 c0_i32
  let v6 : BitVec 32 := Scalar.extui v5
  let c0_i32_0 : BitVec 32 := 0#32
  let v7 : BitVec 1 := Scalar.cmpi .ne v6 c0_i32_0
  v7

def k0_dev1 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_40 : BitVec 32 := 1#32
  let v73 : BitVec 32 := Scalar.addi v2 c1_i32_40
  let c4_i32_41 : BitVec 32 := 4#32
  let v74 : BitVec 32 := Scalar.remsi v73 c4_i32_41
  let c1_i32_43 : BitVec 32 := 1#32
  let v75 : BitVec 32 := Scalar.muli v74 c1_i32_43
  let v76 : BitVec 32 := Scalar.addi c0_i32_44 v75
  v76.toNat
def k0_dev2 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v77 : BitVec 32 := Scalar.addi v2 c2_i32_45
  let c4_i32_46 : BitVec 32 := 4#32
  let v78 : BitVec 32 := Scalar.remsi v77 c4_i32_46
  let c1_i32_48 : BitVec 32 := 1#32
  let v79 : BitVec 32 := Scalar.muli v78 c1_i32_48
  let v80 : BitVec 32 := Scalar.addi c0_i32_49 v79
  v80.toNat
def k0_dev3 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_50 : BitVec 32 := 3#32
  let v81 : BitVec 32 := Scalar.addi v2 c3_i32_50
  let c4_i32_51 : BitVec 32 := 4#32
  let v82 : BitVec 32 := Scalar.remsi v81 c4_i32_51
  let c1_i32_53 : BitVec 32 := 1#32
  let v83 : BitVec 32 := Scalar.muli v82 c1_i32_53
  let v84 : BitVec 32 := Scalar.addi c0_i32_54 v83
  v84.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_56 : BitVec 32 := 1024#32
  let v85 : BitVec 32 := Scalar.muli v2 c1024_i32_56
  let c0_i32_61 : BitVec 32 := 0#32
  ![v85.toNat, 0]
def k0_off2 (d0 : Dev nD) (c3_i32_62 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v91 : BitVec 32 := Scalar.addi v2 c3_i32_62
  let c4_i32_63 : BitVec 32 := 4#32
  let v92 : BitVec 32 := Scalar.remsi v91 c4_i32_63
  let c1024_i32_64 : BitVec 32 := 1024#32
  let v93 : BitVec 32 := Scalar.muli v92 c1024_i32_64
  let c0_i32_69 : BitVec 32 := 0#32
  ![v93.toNat, 0]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v107 : Index := Scalar.indexCast v2
  let c0_78 : Index := 0#32
  let c0_79 : Index := 0#32
  ![v107.toNat, 0, 0]
def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_102 : BitVec 32 := 0#32
  let c0_i32_103 : BitVec 32 := 0#32
  ![v2.toNat, 0, 0]
def k0_dev4 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_62 : BitVec 32 := 3#32
  let v91 : BitVec 32 := Scalar.addi v2 c3_i32_62
  let c4_i32_63 : BitVec 32 := 4#32
  let v92 : BitVec 32 := Scalar.remsi v91 c4_i32_63
  let c1_i32_100 : BitVec 32 := 1#32
  let v130 : BitVec 32 := Scalar.muli v92 c1_i32_100
  let v131 : BitVec 32 := Scalar.addi c0_i32_101 v130
  v131.toNat
def k0_dev5 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_80 : BitVec 32 := 1#32
  let v111 : BitVec 32 := Scalar.addi v2 c1_i32_80
  let c4_i32_81 : BitVec 32 := 4#32
  let v112 : BitVec 32 := Scalar.remsi v111 c4_i32_81
  let c1_i32_127 : BitVec 32 := 1#32
  let v159 : BitVec 32 := Scalar.muli v112 c1_i32_127
  let v160 : BitVec 32 := Scalar.addi c0_i32_128 v159
  v160.toNat
def k0_off6 (d0 : Dev nD) (c0_i32_143 : BitVec 32) (c0_i32_145 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_144 : BitVec 32 := 8#32
  let v180 : BitVec 32 := Scalar.divsi c0_i32_143 c8_i32_144
  let c2_i32_147 : BitVec 32 := 2#32
  let v182 : BitVec 1 := Scalar.cmpi .eq v180 c2_i32_147
  let c1_i32_148 : BitVec 32 := 1#32
  let c0_i32_149 : BitVec 32 := 0#32
  let v183 : BitVec 32 := Scalar.select v182 c1_i32_148 c0_i32_149
  let v184 : BitVec 32 := Scalar.addi v180 v183
  let c3_i32_150 : BitVec 32 := 3#32
  let v185 : BitVec 1 := Scalar.cmpi .eq v180 c3_i32_150
  let c1_i32_151 : BitVec 32 := 1#32
  let c0_i32_152 : BitVec 32 := 0#32
  let v186 : BitVec 32 := Scalar.select v185 c1_i32_151 c0_i32_152
  let v187 : BitVec 32 := Scalar.subi v184 v186
  let v188 : BitVec 32 := Scalar.addi v2 v187
  let c4_i32_153 : BitVec 32 := 4#32
  let v189 : BitVec 32 := Scalar.remsi v188 c4_i32_153
  let c1024_i32_154 : BitVec 32 := 1024#32
  let v190 : BitVec 32 := Scalar.muli v189 c1024_i32_154
  let c8_i32_146 : BitVec 32 := 8#32
  let v181 : BitVec 32 := Scalar.remsi c0_i32_145 c8_i32_146
  let c1024_i32_155 : BitVec 32 := 1024#32
  let v191 : BitVec 32 := Scalar.muli v181 c1024_i32_155
  ![v190.toNat, v191.toNat]
def k0_off6_at (r : Fin 2) : BitVec 32 × BitVec 32 :=
  if r.val < 1 then
    (0#32, 0#32)
  else
    (1#32, 1#32)
def k0_cond2 (i : grid0.Coords) : BitVec 1 :=
  let arg0 : BitVec 32 := BitVec.ofNat 32 (i 0).val
  let c1_i32_1 : BitVec 32 := 1#32
  let v8 : BitVec 1 := Scalar.cmpi .eq arg0 c1_i32_1
  let arg1 : BitVec 32 := BitVec.ofNat 32 (i 1).val
  let c0_i32_2 : BitVec 32 := 0#32
  let v9 : BitVec 1 := Scalar.cmpi .eq arg1 c0_i32_2
  let v10 : BitVec 1 := Scalar.andi v8 v9
  let v11 : BitVec 32 := Scalar.extui v10
  let c0_i32_3 : BitVec 32 := 0#32
  let v12 : BitVec 1 := Scalar.cmpi .ne v11 c0_i32_3
  v12

def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_47 : BitVec 32 := 0#32
  let c0_i32_48 : BitVec 32 := 0#32
  ![v2.toNat, 0, 0]
def k0_off8 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_58 : BitVec 32 := 2#32
  let v88 : BitVec 32 := Scalar.addi v2 c2_i32_58
  let c4_i32_59 : BitVec 32 := 4#32
  let v89 : BitVec 32 := Scalar.remsi v88 c4_i32_59
  let c1_i32_62 : BitVec 32 := 1#32
  let v90 : BitVec 32 := Scalar.muli v89 c1_i32_62
  let v91 : BitVec 32 := Scalar.addi c0_i32_63 v90
  v91.toNat
def k0_cond3 (i : grid0.Coords) : BitVec 1 :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c0_i32_4 : BitVec 32 := 0#32
  let v13 : BitVec 1 := Scalar.cmpi .sgt v4 c0_i32_4
  let c31_i32 : BitVec 32 := 31#32
  let v14 : BitVec 1 := Scalar.cmpi .slt v4 c31_i32
  let v15 : BitVec 1 := Scalar.andi v13 v14
  let v16 : BitVec 32 := Scalar.extui v15
  let c0_i32_5 : BitVec 32 := 0#32
  let v17 : BitVec 1 := Scalar.cmpi .ne v16 c0_i32_5
  v17

def k0_off9 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c1_i32_40 : BitVec 32 := 1#32
  let v72 : BitVec 32 := Scalar.addi v4 c1_i32_40
  let c2_i32_41 : BitVec 32 := 2#32
  let v73 : BitVec 32 := Scalar.remsi v72 c2_i32_41
  ![v73.toNat]
def k0_off10 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c1_i32_40 : BitVec 32 := 1#32
  let v72 : BitVec 32 := Scalar.addi v4 c1_i32_40
  let c2_i32_41 : BitVec 32 := 2#32
  let v73 : BitVec 32 := Scalar.remsi v72 c2_i32_41
  let c0_i32_53 : BitVec 32 := 0#32
  let c0_i32_54 : BitVec 32 := 0#32
  ![v73.toNat, 0, 0]
def k0_off11 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c1_i32_40 : BitVec 32 := 1#32
  let v72 : BitVec 32 := Scalar.addi v4 c1_i32_40
  let c8_i32_42 : BitVec 32 := 8#32
  let v74 : BitVec 32 := Scalar.divsi v72 c8_i32_42
  let c2_i32_44 : BitVec 32 := 2#32
  let v76 : BitVec 1 := Scalar.cmpi .eq v74 c2_i32_44
  let c1_i32_45 : BitVec 32 := 1#32
  let c0_i32_46 : BitVec 32 := 0#32
  let v77 : BitVec 32 := Scalar.select v76 c1_i32_45 c0_i32_46
  let v78 : BitVec 32 := Scalar.addi v74 v77
  let c3_i32_47 : BitVec 32 := 3#32
  let v79 : BitVec 1 := Scalar.cmpi .eq v74 c3_i32_47
  let c1_i32_48 : BitVec 32 := 1#32
  let c0_i32_49 : BitVec 32 := 0#32
  let v80 : BitVec 32 := Scalar.select v79 c1_i32_48 c0_i32_49
  let v81 : BitVec 32 := Scalar.subi v78 v80
  let v82 : BitVec 32 := Scalar.addi v2 v81
  let c4_i32_50 : BitVec 32 := 4#32
  let v83 : BitVec 32 := Scalar.remsi v82 c4_i32_50
  let c1024_i32_51 : BitVec 32 := 1024#32
  let v84 : BitVec 32 := Scalar.muli v83 c1024_i32_51
  let c8_i32_43 : BitVec 32 := 8#32
  let v75 : BitVec 32 := Scalar.remsi v72 c8_i32_43
  let c1024_i32_52 : BitVec 32 := 1024#32
  let v85 : BitVec 32 := Scalar.muli v75 c1024_i32_52
  ![v84.toNat, v85.toNat]
def k0_cond4 (i : grid0.Coords) : BitVec 1 :=
  let arg0 : BitVec 32 := BitVec.ofNat 32 (i 0).val
  let c0_i32_11 : BitVec 32 := 0#32
  let v26 : BitVec 1 := Scalar.cmpi .sgt arg0 c0_i32_11
  let arg1 : BitVec 32 := BitVec.ofNat 32 (i 1).val
  let c0_i32_12 : BitVec 32 := 0#32
  let v27 : BitVec 1 := Scalar.cmpi .eq arg1 c0_i32_12
  let v28 : BitVec 1 := Scalar.andi v26 v27
  let v29 : BitVec 32 := Scalar.extui v28
  let c0_i32_13 : BitVec 32 := 0#32
  let v30 : BitVec 1 := Scalar.cmpi .ne v29 c0_i32_13
  v30

def k0_off12 (i : grid0.Coords) (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c2_i32 : BitVec 32 := 2#32
  let v18 : BitVec 1 := Scalar.cmpi .eq arg0 c2_i32
  let c1_i32_6 : BitVec 32 := 1#32
  let c0_i32_7 : BitVec 32 := 0#32
  let v19 : BitVec 32 := Scalar.select v18 c1_i32_6 c0_i32_7
  let v20 : BitVec 32 := Scalar.addi arg0 v19
  let c3_i32 : BitVec 32 := 3#32
  let v21 : BitVec 1 := Scalar.cmpi .eq arg0 c3_i32
  let c1_i32_8 : BitVec 32 := 1#32
  let c0_i32_9 : BitVec 32 := 0#32
  let v22 : BitVec 32 := Scalar.select v21 c1_i32_8 c0_i32_9
  let v23 : BitVec 32 := Scalar.subi v20 v22
  let v24 : BitVec 32 := Scalar.addi v2 v23
  let c4_i32_10 : BitVec 32 := 4#32
  let v25 : BitVec 32 := Scalar.remsi v24 c4_i32_10
  ![v25.toNat]
def k0_off13 (i : grid0.Coords) (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c2_i32 : BitVec 32 := 2#32
  let v18 : BitVec 1 := Scalar.cmpi .eq arg0 c2_i32
  let c1_i32_6 : BitVec 32 := 1#32
  let c0_i32_7 : BitVec 32 := 0#32
  let v19 : BitVec 32 := Scalar.select v18 c1_i32_6 c0_i32_7
  let v20 : BitVec 32 := Scalar.addi arg0 v19
  let c3_i32 : BitVec 32 := 3#32
  let v21 : BitVec 1 := Scalar.cmpi .eq arg0 c3_i32
  let c1_i32_8 : BitVec 32 := 1#32
  let c0_i32_9 : BitVec 32 := 0#32
  let v22 : BitVec 32 := Scalar.select v21 c1_i32_8 c0_i32_9
  let v23 : BitVec 32 := Scalar.subi v20 v22
  let v24 : BitVec 32 := Scalar.addi v2 v23
  let c4_i32_10 : BitVec 32 := 4#32
  let v25 : BitVec 32 := Scalar.remsi v24 c4_i32_10
  let c0_i32_43 : BitVec 32 := 0#32
  let c0_i32_44 : BitVec 32 := 0#32
  ![v25.toNat, 0, 0]
def k0_off14 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32_14 : BitVec 32 := 2#32
  let v31 : BitVec 32 := Scalar.remsi v4 c2_i32_14
  ![v31.toNat]
def k0_off15 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32_14 : BitVec 32 := 2#32
  let v31 : BitVec 32 := Scalar.remsi v4 c2_i32_14
  let c0_i32_25 : BitVec 32 := 0#32
  let c0_i32_26 : BitVec 32 := 0#32
  ![v31.toNat, 0, 0]
def k0_off16 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c8_i32_15 : BitVec 32 := 8#32
  let v32 : BitVec 32 := Scalar.divsi v4 c8_i32_15
  let c2_i32_17 : BitVec 32 := 2#32
  let v34 : BitVec 1 := Scalar.cmpi .eq v32 c2_i32_17
  let c1_i32_18 : BitVec 32 := 1#32
  let c0_i32_19 : BitVec 32 := 0#32
  let v35 : BitVec 32 := Scalar.select v34 c1_i32_18 c0_i32_19
  let v36 : BitVec 32 := Scalar.addi v32 v35
  let c3_i32_20 : BitVec 32 := 3#32
  let v37 : BitVec 1 := Scalar.cmpi .eq v32 c3_i32_20
  let c1_i32_21 : BitVec 32 := 1#32
  let c0_i32_22 : BitVec 32 := 0#32
  let v38 : BitVec 32 := Scalar.select v37 c1_i32_21 c0_i32_22
  let v39 : BitVec 32 := Scalar.subi v36 v38
  let v40 : BitVec 32 := Scalar.addi v2 v39
  let c4_i32_23 : BitVec 32 := 4#32
  let v41 : BitVec 32 := Scalar.remsi v40 c4_i32_23
  let c1024_i32 : BitVec 32 := 1024#32
  let v42 : BitVec 32 := Scalar.muli v41 c1024_i32
  let c8_i32_16 : BitVec 32 := 8#32
  let v33 : BitVec 32 := Scalar.remsi v4 c8_i32_16
  let c1024_i32_24 : BitVec 32 := 1024#32
  let v43 : BitVec 32 := Scalar.muli v33 c1024_i32_24
  ![v42.toNat, v43.toNat]
def k0_off17 (i : grid0.Coords) (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c2_i32 : BitVec 32 := 2#32
  let v18 : BitVec 1 := Scalar.cmpi .eq arg0 c2_i32
  let c1_i32_6 : BitVec 32 := 1#32
  let c0_i32_7 : BitVec 32 := 0#32
  let v19 : BitVec 32 := Scalar.select v18 c1_i32_6 c0_i32_7
  let v20 : BitVec 32 := Scalar.addi arg0 v19
  let c3_i32 : BitVec 32 := 3#32
  let v21 : BitVec 1 := Scalar.cmpi .eq arg0 c3_i32
  let c1_i32_8 : BitVec 32 := 1#32
  let c0_i32_9 : BitVec 32 := 0#32
  let v22 : BitVec 32 := Scalar.select v21 c1_i32_8 c0_i32_9
  let v23 : BitVec 32 := Scalar.subi v20 v22
  let v24 : BitVec 32 := Scalar.addi v2 v23
  let c4_i32_10 : BitVec 32 := 4#32
  let v25 : BitVec 32 := Scalar.remsi v24 c4_i32_10
  let v49 : Index := Scalar.indexCast v25
  let c0 : Index := 0#32
  let c0_27 : Index := 0#32
  ![v49.toNat, 0, 0]
def k0_off18 (i : grid0.Coords) : Fin 3 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c2_i32_14 : BitVec 32 := 2#32
  let v31 : BitVec 32 := Scalar.remsi v4 c2_i32_14
  let v52 : Index := Scalar.indexCast v31
  let c0_28 : Index := 0#32
  let c0_29 : Index := 0#32
  ![v52.toNat, 0, 0]
def k0_cond5 (i : grid0.Coords) : BitVec 1 :=
  let arg0 : BitVec 32 := BitVec.ofNat 32 (i 0).val
  let c0_i32_31 : BitVec 32 := 0#32
  let v58 : BitVec 1 := Scalar.cmpi .eq arg0 c0_i32_31
  let v59 : BitVec 32 := Scalar.extui v58
  let c0_i32_32 : BitVec 32 := 0#32
  let v60 : BitVec 1 := Scalar.cmpi .ne v59 c0_i32_32
  v60

def k0_off19 (i : grid0.Coords) : Fin 2 → Nat :=
  let c0_40 : Index := 0#32
  let arg1 : BitVec 32 := BitVec.ofNat 32 (i 1).val
  let c1024_i32_30 : BitVec 32 := 1024#32
  let v57 : BitVec 32 := Scalar.muli arg1 c1024_i32_30
  let v72 : Index := Scalar.indexCast v57
  ![0, v72.toNat]
def k0_cond6 (i : grid0.Coords) : BitVec 1 :=
  let arg0 : BitVec 32 := BitVec.ofNat 32 (i 0).val
  let c0_i32_33 : BitVec 32 := 0#32
  let v61 : BitVec 1 := Scalar.cmpi .sgt arg0 c0_i32_33
  let c3_i32_34 : BitVec 32 := 3#32
  let v62 : BitVec 1 := Scalar.cmpi .slt arg0 c3_i32_34
  let v63 : BitVec 1 := Scalar.andi v61 v62
  let v64 : BitVec 32 := Scalar.extui v63
  let c0_i32_35 : BitVec 32 := 0#32
  let v65 : BitVec 1 := Scalar.cmpi .ne v64 c0_i32_35
  v65

def k0_off20 (i : grid0.Coords) : Fin 2 → Nat :=
  let c0_40 : Index := 0#32
  let arg1 : BitVec 32 := BitVec.ofNat 32 (i 1).val
  let c1024_i32_30 : BitVec 32 := 1024#32
  let v57 : BitVec 32 := Scalar.muli arg1 c1024_i32_30
  let v72 : Index := Scalar.indexCast v57
  ![0, v72.toNat]
def k0_cond7 (i : grid0.Coords) : BitVec 1 :=
  let arg0 : BitVec 32 := BitVec.ofNat 32 (i 0).val
  let c3_i32_36 : BitVec 32 := 3#32
  let v66 : BitVec 1 := Scalar.cmpi .eq arg0 c3_i32_36
  let v67 : BitVec 32 := Scalar.extui v66
  let c0_i32_37 : BitVec 32 := 0#32
  let v68 : BitVec 1 := Scalar.cmpi .ne v67 c0_i32_37
  v68

def k0_off21 (i : grid0.Coords) : Fin 2 → Nat :=
  let c0_40 : Index := 0#32
  let arg1 : BitVec 32 := BitVec.ofNat 32 (i 1).val
  let c1024_i32_30 : BitVec 32 := 1024#32
  let v57 : BitVec 32 := Scalar.muli arg1 c1024_i32_30
  let v72 : Index := Scalar.indexCast v57
  ![0, v72.toNat]
def k0_cond8 (i : grid0.Coords) : BitVec 1 :=
  let arg1 : BitVec 32 := BitVec.ofNat 32 (i 1).val
  let c0_i32_44 : BitVec 32 := 0#32
  let v86 : BitVec 1 := Scalar.cmpi .eq arg1 c0_i32_44
  let v87 : BitVec 32 := Scalar.extui v86
  let c0_i32_45 : BitVec 32 := 0#32
  let v88 : BitVec 1 := Scalar.cmpi .ne v87 c0_i32_45
  v88

def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v92 : Index := Scalar.indexCast v2
  let c0_48 : Index := 0#32
  let c0_49 : Index := 0#32
  ![v92.toNat, 0, 0]
def k0_cond9 (i : grid0.Coords) : BitVec 1 :=
  let arg1 : BitVec 32 := BitVec.ofNat 32 (i 1).val
  let c0_i32_46 : BitVec 32 := 0#32
  let v89 : BitVec 1 := Scalar.cmpi .sgt arg1 c0_i32_46
  let v90 : BitVec 32 := Scalar.extui v89
  let c0_i32_47 : BitVec 32 := 0#32
  let v91 : BitVec 1 := Scalar.cmpi .ne v90 c0_i32_47
  v91

def k0_off23 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v92 : Index := Scalar.indexCast v2
  let c0_48 : Index := 0#32
  let c0_49 : Index := 0#32
  ![v92.toNat, 0, 0]
def k0_cond10 (i : grid0.Coords) : BitVec 1 :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c31_i32_38 : BitVec 32 := 31#32
  let v69 : BitVec 1 := Scalar.cmpi .eq v4 c31_i32_38
  let v70 : BitVec 32 := Scalar.extui v69
  let c0_i32_39 : BitVec 32 := 0#32
  let v71 : BitVec 1 := Scalar.cmpi .ne v70 c0_i32_39
  v71

def k0_off24 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_47 : BitVec 32 := 0#32
  let c0_i32_48 : BitVec 32 := 0#32
  ![v2.toNat, 0, 0]
def k0_off25 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_54 : BitVec 32 := 0#32
  let c0_i32_55 : BitVec 32 := 0#32
  ![v2.toNat, 0, 0]
def k0_dev7 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_49 : BitVec 32 := 1#32
  let v80 : BitVec 32 := Scalar.addi v2 c1_i32_49
  let c4_i32_50 : BitVec 32 := 4#32
  let v81 : BitVec 32 := Scalar.remsi v80 c4_i32_50
  let c1_i32_52 : BitVec 32 := 1#32
  let v82 : BitVec 32 := Scalar.muli v81 c1_i32_52
  let v83 : BitVec 32 := Scalar.addi c0_i32_53 v82
  v83.toNat
def k0_dev8 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_58 : BitVec 32 := 2#32
  let v92 : BitVec 32 := Scalar.addi v2 c2_i32_58
  let c4_i32_59 : BitVec 32 := 4#32
  let v93 : BitVec 32 := Scalar.remsi v92 c4_i32_59
  let c1_i32_61 : BitVec 32 := 1#32
  let v94 : BitVec 32 := Scalar.muli v93 c1_i32_61
  let v95 : BitVec 32 := Scalar.addi c0_i32_62 v94
  v95.toNat
def k0_dev9 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_67 : BitVec 32 := 3#32
  let v104 : BitVec 32 := Scalar.addi v2 c3_i32_67
  let c4_i32_68 : BitVec 32 := 4#32
  let v105 : BitVec 32 := Scalar.remsi v104 c4_i32_68
  let c1_i32_70 : BitVec 32 := 1#32
  let v106 : BitVec 32 := Scalar.muli v105 c1_i32_70
  let v107 : BitVec 32 := Scalar.addi c0_i32_71 v106
  v107.toNat
def k0_off27 (d0 : Dev nD) (c1_i32_76 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v116 : BitVec 32 := Scalar.addi v2 c1_i32_76
  let c4_i32_77 : BitVec 32 := 4#32
  let v117 : BitVec 32 := Scalar.remsi v116 c4_i32_77
  ![v117.toNat]
def k0_off28 (d0 : Dev nD) (c1_i32_76 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v116 : BitVec 32 := Scalar.addi v2 c1_i32_76
  let c4_i32_77 : BitVec 32 := 4#32
  let v117 : BitVec 32 := Scalar.remsi v116 c4_i32_77
  let c0_i32_81 : BitVec 32 := 0#32
  let c0_i32_82 : BitVec 32 := 0#32
  ![v117.toNat, 0, 0]
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .local _ .vmem, ⟨0, _⟩ => ⟨S4096x4096, .f32⟩
  | .local _ .vmem, ⟨1, _⟩ => ⟨S4096x8192, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Contents.lean ====
/- The devices, the pieces of the kernel's buffers, and what each piece comes to hold. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.Run

open Cert.KernelIdeal Cert.KernelIdeal.Gen
open Idealize.ShloMosaic
open Idealize.ShloMosaic.TcCoe

/-! ## Devices -/

set_option backward.proofsInPublic true in
/-- The device `j + 1` places after `c`. -/
def pr (c : Dev nD) (j : Fin 3) : Dev nD := ⟨(c.val + j.val + 1) % 4, Nat.mod_lt _ (by decide)⟩

theorem pr_pr_rev (c : Dev nD) (j : Fin 3) : pr (pr c j) j.rev = c := by revert c j; decide
theorem pr_rev_pr (c : Dev nD) (j : Fin 3) : pr (pr c j.rev) j = c := by revert c j; decide
theorem pr_ne (c : Dev nD) (j : Fin 3) : pr c j ≠ c := by revert c j; decide
theorem ne_pr (c : Dev nD) (j : Fin 3) : c ≠ pr c j := by revert c j; decide

/-- Stepping `j + 1` places forward, as a permutation of the devices. -/
def rot (j : Fin 3) : Dev nD ≃ Dev nD := ⟨fun c => pr c j, fun c => pr c j.rev, fun c => pr_pr_rev c j, fun c => pr_rev_pr c j⟩

set_option backward.proofsInPublic true in
/-- The device whose rows device `c` multiplies in stage `s`: itself, its successor, its predecessor, the one across. -/
def ksrc (c : Dev nD) (s : ℕ) : Dev nD :=
  ⟨(c.val + (match s with | 0 => 0 | 1 => 1 | 2 => 3 | _ => 2)) % 4, Nat.mod_lt _ (by decide)⟩

theorem ksrc_zero (c : Dev nD) : ksrc c 0 = c := by revert c; decide
theorem ksrc_one (c : Dev nD) : ksrc c 1 = pr c 0 := by revert c; decide
theorem ksrc_two (c : Dev nD) : ksrc c 2 = pr c 2 := by revert c; decide
theorem ksrc_three (c : Dev nD) : ksrc c 3 = pr c 1 := by revert c; decide

/-- The column block of grid point `t`. -/
abbrev nF (t : ℕ) : Fin 8 := ⟨t % 8, Nat.mod_lt _ (by decide)⟩

/-! ## The memrefs -/

abbrev xM : Memref sig .tc .hbm S4096x1024 .f32 := Memref.whole main_arg0
abbrev wM : Memref sig .tc .hbm S4096x8192 .f32 := Memref.whole main_arg1
abbrev oM : Memref sig .tc .hbm S1024x8192 .f32 := Memref.whole main_v1
abbrev sM : Memref sig .tc .vmem S3x1024x1024 .bf16 := Memref.whole cc0_scratch0
abbrev gM : Memref sig .tc .vmem S4x1024x1024 .bf16 := Memref.whole cc0_scratch1
abbrev yM : Memref sig .tc .vmem S1024x8192 .f32 := Memref.whole cc0_scratch2
abbrev bM : Memref sig .tc .vmem S2x1024x1024 .f32 := Memref.whole cc0_scratch3
abbrev aM : Memref sig .tc .vmem S4x8x128 .f32 := Memref.whole cc0_scratch4

theorem inb_x (r : Dev nD) : ∀ i, (![1024 * r.val, 0] : Fin 2 → ℕ) i + S1024x1024.size i ≤ S4096x1024.size i := by revert r; decide
theorem inb_w (r : Dev nD) (n : Fin 8) : ∀ i, (![1024 * r.val, 1024 * n.val] : Fin 2 → ℕ) i + S1024x1024.size i ≤ S4096x8192.size i := by
  revert r n; decide
theorem inb_y (n : Fin 8) : ∀ i, (![0, 1024 * n.val] : Fin 2 → ℕ) i + S1024x1024.size i ≤ S1024x8192.size i := by revert n; decide
theorem inb_s (j : Fin 3) : ∀ i, (![j.val, 0, 0] : Fin 3 → ℕ) i + S1x1024x1024.size i ≤ S3x1024x1024.size i := by revert j; decide
theorem inb_g (k : Dev nD) : ∀ i, (![k.val, 0, 0] : Fin 3 → ℕ) i + S1x1024x1024.size i ≤ S4x1024x1024.size i := by revert k; decide
theorem inb_b (j : Fin 2) : ∀ i, (![j.val, 0, 0] : Fin 3 → ℕ) i + S1x1024x1024.size i ≤ S2x1024x1024.size i := by revert j; decide
theorem inb_a (k : Dev nD) : ∀ i, (![k.val, 0, 0] : Fin 3 → ℕ) i + S1x8x128.size i ≤ S4x8x128.size i := by revert k; decide
theorem inb_2 (j : Fin 2) : ∀ i, (![j.val] : Fin 1 → ℕ) i + S1.size i ≤ S2.size i := by revert j; decide
theorem inb_3 (j : Fin 3) : ∀ i, (![j.val] : Fin 1 → ℕ) i + S1.size i ≤ S3.size i := by revert j; decide
theorem inb_4 (k : Dev nD) : ∀ i, (![k.val] : Fin 1 → ℕ) i + S1.size i ≤ S4.size i := by revert k; decide

/-- Row block `r` of the device's columns of the left operand. -/
abbrev xR (r : Dev nD) : Rect S4096x1024 := Rect.unit (s := S4096x1024) ![1024 * r.val, 0] S1024x1024.size (inb_x r)
/-- Block (`r`, `n`) of the right operand. -/
abbrev wR (r : Dev nD) (n : Fin 8) : Rect S4096x8192 := Rect.unit (s := S4096x8192) ![1024 * r.val, 1024 * n.val] S1024x1024.size (inb_w r n)
/-- Column block `n` of the device's rows of the result. -/
abbrev yR (n : Fin 8) : Rect S1024x8192 := Rect.unit (s := S1024x8192) ![0, 1024 * n.val] S1024x1024.size (inb_y n)
abbrev sR (j : Fin 3) : Rect S3x1024x1024 := Rect.unit (s := S3x1024x1024) ![j.val, 0, 0] S1x1024x1024.size (inb_s j)
abbrev gR (k : Dev nD) : Rect S4x1024x1024 := Rect.unit (s := S4x1024x1024) ![k.val, 0, 0] S1x1024x1024.size (inb_g k)
abbrev bR (j : Fin 2) : Rect S2x1024x1024 := Rect.unit (s := S2x1024x1024) ![j.val, 0, 0] S1x1024x1024.size (inb_b j)
abbrev aR (k : Dev nD) : Rect S4x8x128 := Rect.unit (s := S4x8x128) ![k.val, 0, 0] S1x8x128.size (inb_a k)

abbrev xB (r : Dev nD) : Memref sig .tc .hbm S1024x1024 .f32 := xM.slice (xR r) (fun _ => rfl)
abbrev wB (r : Dev nD) (n : Fin 8) : Memref sig .tc .hbm S1024x1024 .f32 := wM.slice (wR r n) (fun _ => rfl)
abbrev oC (n : Fin 8) : Memref sig .tc .hbm S1024x1024 .f32 := oM.slice (yR n) (fun _ => rfl)
abbrev yC (n : Fin 8) : Memref sig .tc .vmem S1024x1024 .f32 := yM.slice (yR n) (fun _ => rfl)
abbrev sS (j : Fin 3) : Memref sig .tc .vmem S1x1024x1024 .bf16 := sM.slice (sR j) (fun _ => rfl)
abbrev gS (k : Dev nD) : Memref sig .tc .vmem S1x1024x1024 .bf16 := gM.slice (gR k) (fun _ => rfl)
abbrev bS (j : Fin 2) : Memref sig .tc .vmem S1x1024x1024 .f32 := bM.slice (bR j) (fun _ => rfl)
abbrev aS (k : Dev nD) : Memref sig .tc .vmem S1x8x128 .f32 := aM.slice (aR k) (fun _ => rfl)
abbrev sQ (j : Fin 3) : Memref sig .tc .vmem S1024x1024 .bf16 := (sS j).squeeze S1024x1024 squeezes_S1x1024x1024_S1024x1024
abbrev gQ (k : Dev nD) : Memref sig .tc .vmem S1024x1024 .bf16 := (gS k).squeeze S1024x1024 squeezes_S1x1024x1024_S1024x1024
abbrev bQ (j : Fin 2) : Memref sig .tc .vmem S1024x1024 .f32 := (bS j).squeeze S1024x1024 squeezes_S1x1024x1024_S1024x1024
abbrev aQ (k : Dev nD) : Memref sig .tc .vmem S8x128 .f32 := (aS k).squeeze S8x128 squeezes_S1x8x128_S8x128

/-! ## The semaphores -/

/-- The barrier semaphore of collective id 0. -/
abbrev barS : Sem sig := (SemArray.scalar (sig.barrier 0 rfl) : Sems sig S_).sem
abbrev xsem (j : Fin 2) : DmaSem sig := ((cc0_scratch5.slice (Rect.unit (s := S2) ![j.val] S1.size (inb_2 j))).squeeze S_ squeezes_S1_S_).sem
abbrev wsem (j : Fin 2) : DmaSem sig := ((cc0_scratch6.slice (Rect.unit (s := S2) ![j.val] S1.size (inb_2 j))).squeeze S_ squeezes_S1_S_).sem
abbrev ysem (j : Fin 2) : DmaSem sig := ((cc0_scratch7.slice (Rect.unit (s := S2) ![j.val] S1.size (inb_2 j))).squeeze S_ squeezes_S1_S_).sem
abbrev sendS (j : Fin 3) : DmaSem sig := ((cc0_scratch8.slice (Rect.unit (s := S3) ![j.val] S1.size (inb_3 j))).squeeze S_ squeezes_S1_S_).sem
abbrev recvS (k : Dev nD) : DmaSem sig := ((cc0_scratch9.slice (Rect.unit (s := S4) ![k.val] S1.size (inb_4 k))).squeeze S_ squeezes_S1_S_).sem
abbrev asendS (j : Fin 3) : DmaSem sig := ((cc0_scratch10.slice (Rect.unit (s := S3) ![j.val] S1.size (inb_3 j))).squeeze S_ squeezes_S1_S_).sem
abbrev arecvS (k : Dev nD) : DmaSem sig := ((cc0_scratch11.slice (Rect.unit (s := S4) ![k.val] S1.size (inb_4 k))).squeeze S_ squeezes_S1_S_).sem

/-- A transfer of a block of rows counts this much. -/
abbrev NX : ℕ := (gQ 0).view.dmaCredit
/-- A transfer of a block of maxima counts this much. -/
abbrev NA : ℕ := (aQ 0).view.dmaCredit
theorem NX_pos : 0 < NX := View.dmaCredit_pos _ (by decide)
theorem NA_pos : 0 < NA := View.dmaCredit_pos _ (by decide)
theorem NX_g (k : Dev nD) : (gQ k).view.dmaCredit = NX := rfl
theorem NX_s (j : Fin 3) : (sQ j).view.dmaCredit = NX := rfl
theorem NA_a (k : Dev nD) : (aQ k).view.dmaCredit = NA := rfl

/-! ## Contents -/

variable {F : FTy → Type} [FloatOps F] (m : (ℓ : Loc nD τ sig) → Buf (Elt F) ℓ)

/-- The device's columns of the left operand, and its copy of the right one. -/
abbrev xin (d : Dev nD) : Vec F S4096x1024 .f32 := m ((d : Thread nD τ).loc main_arg0)
abbrev win (d : Dev nD) : Vec F S4096x8192 .f32 := m ((d : Thread nD τ).loc main_arg1)

/-- A block under one leading dimension of length one. -/
abbrev up {e : EltTy} (X : Vec F S1024x1024 e) : Vec F S1x1024x1024 e := shapeCast S1x1024x1024 X shapeCasts_S1024x1024_S1x1024x1024
abbrev upA {e : EltTy} (X : Vec F S8x128 e) : Vec F S1x8x128 e := shapeCast S1x8x128 X shapeCasts_S8x128_S1x8x128

def xblk (d r : Dev nD) : Vec F S1024x1024 .f32 := fun i => xin m d ((xR r).emb i)
def wblk (d r : Dev nD) (n : Fin 8) : Vec F S1024x1024 .f32 := fun i => win m d ((wR r n).emb i)

/-- Device `k`'s rows for device `r`, rounded: what slot `k` of device `r`'s gathered rows comes to hold. -/
def XB (k r : Dev nD) : Vec F S1x1024x1024 .bf16 := k0_pay7 (up (xblk m k r))
/-- The block of the right operand that device `c` multiplies at stage `s`, column block `n`. -/
def WB (c : Dev nD) (s : ℕ) (n : Fin 8) : Vec F S1x1024x1024 .f32 := up (wblk m c (ksrc c s) n)
/-- The product of stage `s` at column block `n`. -/
def part (c : Dev nD) (s : ℕ) (n : Fin 8) : Vec F S1024x1024 .f32 := k0_pay25 (XB m (ksrc c s) c) (WB m c s n)
/-- The accumulator's column block `n` after stage `s`. -/
def acc (c : Dev nD) (k : ℕ) (n : Fin 8) : Vec F S1024x1024 .f32 :=
  match k with
  | 0 => k0_pay26 (XB m (ksrc c 0) c) (WB m c 0 n)
  | 1 => k0_pay1 (part m c 1 n) (k0_pay26 (XB m (ksrc c 0) c) (WB m c 0 n))
  | 2 => k0_pay1 (part m c 2 n) (k0_pay1 (part m c 1 n) (k0_pay26 (XB m (ksrc c 0) c) (WB m c 0 n)))
  | _ => k0_pay3 (part m c 3 n) (k0_pay1 (part m c 2 n) (k0_pay1 (part m c 1 n) (k0_pay26 (XB m (ksrc c 0) c) (WB m c 0 n))))
/-- The device's own maximum after `k + 1` column blocks of the last stage. -/
def amax (c : Dev nD) : ℕ → Vec F S1x8x128 .f32
  | 0 => k0_pay5 (part m c 3 0) (acc m c 2 0)
  | k + 1 => k0_pay6 (part m c 3 (nF (k + 1))) (acc m c 2 (nF (k + 1))) (amax c k)
/-- The device's own maximum. -/
def AG (c : Dev nD) : Vec F S1x8x128 .f32 := amax m c 7
/-- All devices' maxima. -/
def GA : Vec F S4x8x128 .f32 := fun i => AG m ⟨(i 0).val, (i 0).isLt⟩ (fun k => match k with | 0 => ⟨0, by decide⟩ | 1 => i 1 | 2 => i 2)
/-- Column block `n` of the device's rows of the result. -/
def outc (c : Dev nD) (n : Fin 8) : Vec F S1024x1024 .f32 := k0_pay14 (GA m) (acc m c 3 n)
/-- The device's rows of the result. -/
def OUT (c : Dev nD) : Vec F S1024x8192 .f32 := fun i =>
  outc m c ⟨(i 1).val / 1024, by have h := (i 1).isLt; show (i 1).val / 1024 < 8; have : (i 1).val < 8192 := h; omega⟩
    (fun k => match k with | 0 => i 0 | 1 => ⟨(i 1).val % 1024, Nat.mod_lt _ (by decide)⟩)

end Cert.Run
-- ==== Proof.Protocol.lean ====
/- The cells the devices meet at, who pays what into them and when, and what each device owes. -/
module

public import proofs.«01_k».proof.Proof.Contents

@[expose] public section

set_option maxRecDepth 16384

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's part, the rounds' part (a duty is named by its payer), the counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## The cells -/

/-- The semaphores of one device at which devices meet. -/
inductive Cell
  | bar
  | send (j : Fin 3)
  | recv (k : Dev nD)
  | asend (j : Fin 3)
  | arecv (k : Dev nD)
  deriving DecidableEq

def Cell.list : List Cell :=
  [.bar, .send 0, .send 1, .send 2, .recv 0, .recv 1, .recv 2, .recv 3, .asend 0, .asend 1, .asend 2, .arecv 0, .arecv 1, .arecv 2, .arecv 3]

theorem Cell.mem_list (k : Cell) : k ∈ Cell.list := by
  cases k with
  | bar => decide
  | send j => revert j; decide
  | recv j => revert j; decide
  | asend j => revert j; decide
  | arecv j => revert j; decide

instance : Fintype Cell := ⟨⟨Cell.list, by decide⟩, Cell.mem_list⟩

abbrev csem : Cell → SemLoc sig
  | .bar => .reg barS
  | .send j => .dma (sendS j)
  | .recv k => .dma (recvS k)
  | .asend j => .dma (asendS j)
  | .arecv k => .dma (arecvS k)

abbrev kcell (ck : Dev nD × Cell) : GSem nD τ sig := ((ck.1 : Thread nD τ), csem ck.2)

theorem csem_injective : Function.Injective csem := by
  have h : ∀ a b : Cell, csem a = csem b → a = b := by decide +kernel
  exact fun a b => h a b

theorem kcell_injective : Function.Injective kcell := fun a b h => by
  obtain ⟨a1, a2⟩ := a; obtain ⟨b1, b2⟩ := b
  have h1 := congrArg (fun g => g.1.1) h
  have h2 := csem_injective (congrArg (fun g => g.2) h)
  exact Prod.ext h1 h2

/-! ## The schedule -/

abbrev any {sp : Space} {s : Shape} {e : EltTy} (c : Dev nD) (M : Memref sig .tc sp s e) : sProp 𝕄 :=
  iprop(∃ X : s.Idx → Elt F e, owns (c : Thread nD τ) M fullShare X)

/-- The share of the device's own block of maxima that transfer `j` reads through. -/
def ash : Fin 3 → PosShare TreeShare
  | 0 => fullShare.left
  | 1 => fullShare.right.left
  | 2 => fullShare.right.right

def dutiesN : Dev nD × Cell → Finset (Dev nD)
  | (c, .bar) => Finset.univ.erase c
  | (c, .send _) => {c}
  | (c, .recv k) => if k = c then ∅ else {k}
  | (c, .asend _) => {c}
  | (c, .arecv k) => if k = c then ∅ else {k}

def amtN : Dev nD × Cell → ℕ
  | (_, .bar) => 1
  | (_, .send _) => NX
  | (_, .recv _) => NX
  | (_, .asend _) => NA
  | (_, .arecv _) => NA

variable (m : (ℓ : Loc nD τ sig) → Buf (Elt F) ℓ)

/-- What device `p`'s payment into a cell hands over. At the barrier: its slots for the receiver's rows and maxima. At a
    send cell: the buffer sent from. At a receive cell: the slot, holding what was sent. -/
def payN : Dev nD × Cell → Dev nD → sProp 𝕄
  | (c, .bar), p => iprop(any p (gS c) ∗ any p (aS c))
  | (c, .send j), _ => any c (sS j)
  | (c, .recv k), _ => owns (c : Thread nD τ) (gS k) fullShare (XB m k c)
  | (c, .asend j), _ => owns (c : Thread nD τ) (aS c) (ash j) (AG m c)
  | (c, .arecv k), _ => owns (c : Thread nD τ) (aS k) fullShare (AG m k)

instance payN_storable (ck : Dev nD × Cell) (p : Dev nD) : BI.Storable (upEmb : UEmb _ 𝕄) (payN m ck p) := by
  obtain ⟨c, k⟩ := ck
  cases k <;> (dsimp only [payN]; infer_instance)

theorem amtN_pos (ck : Dev nD × Cell) : 0 < amtN ck := by
  obtain ⟨c, k⟩ := ck
  cases k
  exacts [Nat.one_pos, NX_pos, NX_pos, NA_pos, NA_pos]

/-- One round. -/
def sched : Rounds.Schedule (GSem nD τ sig) (Dev nD) 𝕄 where
  duties g r := if r = 0 then Function.extend kcell dutiesN (fun _ => ∅) g else ∅
  unitless _ := False
  amount g _ _ := Function.extend kcell amtN (fun _ => 1) g
  payload g _ p := Function.extend kcell (payN m) (fun _ _ => iprop(emp)) g p
  amount_pos g _ _ _ := by
    by_cases h : ∃ a, kcell a = g
    · obtain ⟨a, rfl⟩ := h; rw [kcell_injective.extend_apply]; exact amtN_pos a
    · rw [Function.extend_apply' _ _ _ h]; exact Nat.one_pos

instance sched_payload_storable (g : GSem nD τ sig) (r : ℕ) (d : Dev nD) :
    BI.Storable (upEmb : UEmb _ 𝕄) ((sched (F := F) m).payload g r d) := by
  show BI.Storable upEmb (Function.extend kcell (payN m) (fun _ _ => iprop(emp)) g d)
  by_cases h : ∃ a, kcell a = g
  · obtain ⟨a, rfl⟩ := h; rw [kcell_injective.extend_apply]; infer_instance
  · rw [Function.extend_apply' _ _ _ h]; infer_instance

theorem duties_cell (ck : Dev nD × Cell) : (sched (F := F) m).duties (kcell ck) 0 = dutiesN ck := by
  show (if 0 = 0 then Function.extend kcell dutiesN (fun _ => ∅) (kcell ck) else ∅) = _
  rw [if_pos rfl, kcell_injective.extend_apply]
theorem duties_later (g : GSem nD τ sig) : ∀ r, 1 ≤ r → (sched (F := F) m).duties g r = ∅ :=
  fun r hr => if_neg (by omega)
theorem amount_cell (ck : Dev nD × Cell) (d : Dev nD) : (sched (F := F) m).amount (kcell ck) 0 d = amtN ck := by
  show Function.extend kcell amtN (fun _ => 1) (kcell ck) = _
  rw [kcell_injective.extend_apply]
theorem payload_cell (ck : Dev nD × Cell) (d : Dev nD) : (sched (F := F) m).payload (kcell ck) 0 d = payN m ck d := by
  show Function.extend kcell (payN m) (fun _ _ => iprop(emp)) (kcell ck) d = _
  rw [kcell_injective.extend_apply]
theorem expect_cell (ck : Dev nD × Cell) : (sched (F := F) m).expect (kcell ck) 0 = (dutiesN ck).card * amtN ck := by
  unfold Schedule.expect Schedule.amountOf
  rw [duties_cell, Finset.sum_congr rfl fun d _ => amount_cell m ck d, Finset.sum_const, smul_eq_mul]

theorem rest_cell (ck : Dev nD × Cell) :
    bigSep ((sched (F := F) m).duties (kcell ck) 0 \ ∅) (fun d => (sched (F := F) m).payload (kcell ck) 0 d)
      = bigSep (dutiesN ck) (payN m ck) := by
  rw [Finset.sdiff_empty, duties_cell]
  exact congrArg (bigSep (dutiesN ck)) (funext fun d => payload_cell m ck d)

/-! ## What each device owes; the levels -/

/-- The cell that debt `i` of device `c` is paid into: the debts are paid from the last to the first. -/
def debtCell (c : Dev nD) : ℕ → Dev nD × Cell
  | 0 => (pr c 2, .arecv c)
  | 1 => (pr c 1, .arecv c)
  | 2 => (pr c 0, .arecv c)
  | 3 => (pr c 1, .recv c)
  | 4 => (pr c 0, .recv c)
  | 5 => (pr c 2, .recv c)
  | 6 => (pr c 2, .bar)
  | 7 => (pr c 1, .bar)
  | _ => (pr c 0, .bar)

/-- The first `n` debts of device `c`. -/
def Ow (c : Dev nD) : ℕ → CellTallies nD τ sig Unit
  | 0 => 0
  | n + 1 => Ow c n + tallyAt (kcell (debtCell c n)) () (amtN (debtCell c n))

theorem Ow_succ (c : Dev nD) (n : ℕ) : Ow c (n + 1) = Ow c n + tallyAt (kcell (debtCell c n)) () (amtN (debtCell c n)) := rfl

def L (g : GSem nD τ sig) : Finset Unit := if g.1.2 = .tc then {()} else ∅

def lvN : Dev nD × Cell → ℕ
  | (_, .bar) => 1
  | (_, .recv _) => 2
  | (_, .arecv _) => 3
  | _ => 0

def lv (g : GSem nD τ sig) (_ : Unit) : ℕ := Function.extend kcell lvN (fun _ => 0) g

theorem L_of_ne (g : GSem nD τ sig) (h : g.1.2 ≠ .tc) : L g = ∅ := if_neg h
theorem L_tc (c : Dev nD) (sm : SemLoc sig) : L ((c : Thread nD τ), sm) = {()} := if_pos rfl
theorem lv_cell (ck : Dev nD × Cell) : lv (kcell ck) () = lvN ck := kcell_injective.extend_apply _ _ _
theorem lv_other (c : Dev nD) (sm : SemLoc sig) (h : ∀ k, csem k ≠ sm) : lv ((c : Thread nD τ), sm) () = 0 :=
  Function.extend_apply' _ _ _ fun ⟨a, ha⟩ => h a.2 (congrArg (fun g => g.2) ha)

theorem Ow_pos {c : Dev nD} {g : GSem nD τ sig} {u : Unit} : ∀ {n : ℕ}, 0 < Ow c n g u → ∃ i, i < n ∧ g = kcell (debtCell c i)
  | 0, h => absurd h (Nat.lt_irrefl 0)
  | n + 1, h => by
    unfold Ow at h
    rw [Pi.add_apply, Finsupp.add_apply, tallyAt_apply] at h
    by_cases hg : g = kcell (debtCell c n) ∧ u = ()
    · exact ⟨n, Nat.lt_succ_self n, hg.1⟩
    · rw [if_neg hg, Nat.add_zero] at h
      obtain ⟨i, hi, e⟩ := Ow_pos h
      exact ⟨i, Nat.lt_succ_of_lt hi, e⟩

/-- A device that owes its first `n` debts may wait at a semaphore of a level below all of theirs. -/
theorem mayWait (c : Dev nD) (sm : SemLoc sig) (n b : ℕ) (hb : lv ((c : Thread nD τ), sm) () ≤ b) (hn : ∀ i, i < n → b < lvN (debtCell c i)) :
    (levAts L lv : sProp 𝕄) ⊢ MayWait (c : Thread nD τ) sm () (Ow c n) :=
  MayOwe.of_cut (L := L) (lev := lv) b (fun p hp => by rw [Finset.mem_singleton.mp hp, L_tc]; exact Finset.mem_singleton_self _)
    (fun g u hg => by obtain ⟨i, _, rfl⟩ := Ow_pos hg; exact Finset.mem_singleton_self _)
    (fun p hp => by rw [Finset.mem_singleton.mp hp]; exact hb)
    (fun g u hg => by obtain ⟨i, hi, rfl⟩ := Ow_pos hg; exact (lv_cell _).symm ▸ hn i hi)

theorem debt_lt (c : Dev nD) : ∀ i, 0 < lvN (debtCell c i)
  | 0 | 1 | 2 | 3 | 4 | 5 | 6 | 7 => by revert c; decide
  | _ + 8 => by show 0 < 1; decide
theorem debt_lt_one (c : Dev nD) : ∀ i, i < 6 → 1 < lvN (debtCell c i)
  | 0, _ | 1, _ | 2, _ | 3, _ | 4, _ | 5, _ => by revert c; decide
  | n + 6, h => absurd h (by omega)
theorem debt_lt_two (c : Dev nD) : ∀ i, i < 3 → 2 < lvN (debtCell c i)
  | 0, _ | 1, _ | 2, _ => by revert c; decide
  | n + 3, h => absurd h (by omega)

/-- What holds for good: every cell's invariant, that every cell has reached its round, and the levels. -/
def known : sProp 𝕄 :=
  iprop((∃ K : Dev nD × Cell → ℕ, bigSep Finset.univ fun ck => iprop(cellInv ER (sched m) (K ck) (kcell ck) ∗ reached ER (kcell ck) 0)) ∗ levAts L lv)

instance known_persistent : BI.Persistent (known (F := F) m) := by unfold known; infer_instance

theorem known_inv (ck : Dev nD × Cell) : known m ⊢ (iprop(∃ κ, cellInv ER (sched m) κ (kcell ck) ∗ reached ER (kcell ck) 0) : sProp 𝕄) := by
  unfold known
  iintro ⟨⟨%K, H⟩, -⟩
  ihave H2 := (show (bigSep Finset.univ fun ck => (iprop(cellInv ER (sched m) (K ck) (kcell ck) ∗ reached ER (kcell ck) 0) : sProp 𝕄))
      ⊢ iprop(cellInv ER (sched m) (K ck) (kcell ck) ∗ reached ER (kcell ck) 0) from bigSep_elim (Finset.mem_univ ck)) $$ H
  iexists (K ck); iexact H2
theorem known_lev : known m ⊢ (levAts L lv : sProp 𝕄) := by
  unfold known; iintro ⟨-, H⟩; iexact H

/-- Device `c` has its first `n` debts still to pay. -/
def ow (c : Dev nD) (n : ℕ) : sProp 𝕄 := iprop(∃ W, owes (c : Thread nD τ) (Ow c n) W)

end Cert.Run
-- ==== Proof.Steps.lean ====
/- One rule for each kind of step the kernel takes: the effect, what it needs, and what it leaves. -/
module

public import proofs.«01_k».proof.Proof.Protocol
public import Idealize.ShloMosaic.Lib.Pipeline.Value

@[expose] public section

set_option maxRecDepth 16384

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

abbrev EC : UEmb Counters (MT nD τ sig Unit (Elt F) ℕ UU ℕ) := countersEmb

abbrev 𝒱₀ : Variants := Variants.none

/-- The weakest precondition of a piece of device `c`'s body. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)
variable {α : Type} {k : PUnit → Prog (TpuEff nD τ sig (Elt F) Λ₀ .tc) α}

/-! ## Owned pieces -/

section Owned

variable (c : Dev nD) {sp : Space} {s : Shape} {e : EltTy} (M : Memref sig .tc sp s e) (q : PosShare TreeShare)

theorem owns_def (X : s.Idx → Elt F e) :
    (owns (c : Thread nD τ) M q X : sProp 𝕄) = iprop(∃ f, ⌜M.view.read (Elt F) f = X⌝ ∗ (M.view.loc (c : Thread nD τ) ↦[M.view.set]{q} f)) := rfl

theorem owns_of {f : M.view.ty.Contents (Elt F)} {X : s.Idx → Elt F e} (h : M.view.read (Elt F) f = X) :
    (M.view.loc (c : Thread nD τ) ↦[M.view.set]{q} f : sProp 𝕄) ⊢ owns (c : Thread nD τ) M q X := by
  rw [owns_def]
  iintro H
  iexists f
  isplitr; · ipureintro; exact h
  iexact H

theorem owns_squeeze {s' : Shape} (hq : s.Squeezes s') (h : s'.ShapeCasts s) (X : s'.Idx → Elt F e) :
    (owns (c : Thread nD τ) (M.squeeze s' hq) q X : sProp 𝕄) = owns (c : Thread nD τ) M q (shapeCast s X h) := by
  have hr : ∀ f, (M.squeeze s' hq).view.read (Elt F) f = shapeCast s' (M.view.read (Elt F) f) h.symm := fun f => rfl
  have he : ∀ f, (M.squeeze s' hq).view.read (Elt F) f = X ↔ M.view.read (Elt F) f = shapeCast s X h := fun f => by
    rw [hr]
    constructor
    · rintro rfl; exact (Idealize.ShloMosaic.shapeCast_shapeCast _ _ _).symm
    · intro h'; rw [h']; exact Idealize.ShloMosaic.shapeCast_shapeCast _ _ _
  have hs : (M.squeeze s' hq).view.set = M.view.set := Memref.set_view_squeeze M hq
  have hl : ∀ f, ((M.squeeze s' hq).view.loc (c : Thread nD τ) ↦[(M.squeeze s' hq).view.set]{q} f : sProp 𝕄)
      = (M.view.loc (c : Thread nD τ) ↦[M.view.set]{q} f) := fun f => by
    show (M.view.loc (c : Thread nD τ) ↦[(M.squeeze s' hq).view.set]{q} f : sProp 𝕄) = _
    rw [hs]
  rw [owns_def, owns_def]
  refine congrArg (fun (Φ : M.view.ty.Contents (Elt F) → sProp 𝕄) => iprop(∃ f, Φ f)) (funext fun f => ?_)
  rw [hl f]
  exact congrArg (fun p : Prop => (iprop(⌜p⌝ ∗ (M.view.loc (c : Thread nD τ) ↦[M.view.set]{q} f)) : sProp 𝕄)) (propext (he f))

/-- What is kept of a memref of which the rectangle `r` is lent out. -/
def kept (r : Rect s) (X : s.Idx → Elt F e) : sProp 𝕄 :=
  iprop(∃ f, ⌜M.view.read (Elt F) f = X⌝ ∗ (M.view.loc (c : Thread nD τ) ↦[M.view.set \ (M.view.slice r).set]{q} f))

theorem lend (r : Rect s) (hr : ∀ a, r.stride a = 1) (X : s.Idx → Elt F e) :
    (owns (c : Thread nD τ) M q X : sProp 𝕄) ⊢ iprop(owns (c : Thread nD τ) (M.slice r hr) q (fun i => X (r.emb i)) ∗ kept c M q r X) :=
  owns_slice_split (c : Thread nD τ) M q r hr X

theorem restore (r : Rect s) (hr : ∀ a, r.stride a = 1) (X : s.Idx → Elt F e) :
    iprop(owns (c : Thread nD τ) (M.slice r hr) q (fun i => X (r.emb i)) ∗ kept c M q r X) ⊢ (owns (c : Thread nD τ) M q X : sProp 𝕄) := by
  unfold kept
  iintro ⟨H, ⟨%f, %hf, Hf⟩⟩
  ihave H := (owns_slice_join (c : Thread nD τ) M q r hr (fun i => X (r.emb i)) f) $$ [H Hf]
  · isplitl [H]; · iexact H
    iexact Hf
  have ho : r.overlay (M.view.read (Elt F) f) (fun i => X (r.emb i)) = X := by
    subst hf
    funext j
    by_cases hj : j ∈ r.set
    · obtain ⟨i, rfl⟩ := r.exists_idx_of_mem hj
      exact Rect.overlay_emb r _ _ i
    · rw [Rect.overlay_of_not_mem _ _ _ hj]
  rw [ho]
  iexact H

end Owned

/-! ## Loads and stores -/

theorem ld {Q : α → sProp 𝕄} (c : Dev nD) {cs : CoreSpace} {s : Shape} {e : EltTy} (M : Memref sig .tc cs s e) {off off' : Fin s.rank → ℕ} {size : Fin s.rank → ℕ}
    {p : ∀ i, off i + size i ≤ s.size i} {p' : ∀ i, off' i + size i ≤ s.size i} (h : off = off') {hl : M.view.LoadsAt (Rect.unit off size p).toLoadRect}
    {q : PosShare TreeShare} {V : Shape.Idx ⟨s.rank, size⟩ → Elt F e} {k : (Shape.Idx ⟨s.rank, size⟩ → Elt F e) → Prog (TpuEff nD τ sig (Elt F) Λ₀ .tc) α} :
    (owns (c : Thread nD τ) (M.slice (Rect.unit off' size p') (fun _ => rfl)) q V : sProp 𝕄)
      ⊢ iprop((owns (c : Thread nD τ) (M.slice (Rect.unit off' size p') (fun _ => rfl)) q V -∗ run c (k V) Q)
        -∗ run c (.op (.load M (Rect.unit off size p).toLoadRect hl) k) Q) := by
  subst h
  rw [owns_def]
  iintro ⟨%f, %hf, H⟩ Hk
  subst hf
  iapply (wp_load_rect 𝒱₀ (c : Thread nD τ) none Set.univ (m := M) (r := Rect.unit off size p) (Finset.Subset.refl _)) $$ H
  iintro H
  iapply Hk
  iexists f
  isplitr; · ipureintro; rfl
  iexact H

theorem st {Q : α → sProp 𝕄} (c : Dev nD) {cs : CoreSpace} {s : Shape} {e : EltTy} (M : Memref sig .tc cs s e) {off off' : Fin s.rank → ℕ} {size : Fin s.rank → ℕ}
    {p : ∀ i, off i + size i ≤ s.size i} {p' : ∀ i, off' i + size i ≤ s.size i} (h : off = off')
    {w : Shape.Idx ⟨s.rank, size⟩ → Elt F e} {hx : (M.access (Rect.unit off size p)).Stores Finset.univ}
    {hm : (Finset.univ : Finset (Rect.unit off size p).shape.Idx) = Finset.univ ∨ ∀ a, (Rect.unit off size p).stride a = 1} :
    (any c (M.slice (Rect.unit off' size p') (fun _ => rfl)) : sProp 𝕄)
      ⊢ iprop((owns (c : Thread nD τ) (M.slice (Rect.unit off' size p') (fun _ => rfl)) fullShare w -∗ run c (k ⟨⟩) Q)
        -∗ run c (.op (.store M (Rect.unit off size p) w Finset.univ hx hm) k) Q) := by
  subst h
  iintro ⟨%V, H⟩ Hk
  ihave H := (Entails.of_eq (owns_def c (M.slice (Rect.unit off size p) (fun _ => rfl)) fullShare V)) $$ H
  icases H with ⟨%f, %hf, H⟩
  iapply (wp_store 𝒱₀ (c : Thread nD τ) none Set.univ (m := M) (r := Rect.unit off size p) (Mk := Finset.univ) (S := (M.slice (Rect.unit off size p) (fun _ => rfl)).view.set)
    (show (M.access (Rect.unit off size p)).set ⊆ (M.access (Rect.unit off size p)).set from Finset.Subset.refl _)) $$ H
  iintro H
  iapply Hk
  iapply (owns_of c (M.slice (Rect.unit off size p) (fun _ => rfl)) fullShare (View.read_write_univ _ _)) $$ H

/-! ## Copies within the device -/

/-- A copy of `src`, holding `X`, to `dst`, on the semaphore `sm`, under way. -/
def fl (c : Dev nD) (sm : DmaSem sig) {sp sp' : Space} {s : Shape} {e : EltTy} (dst : Memref sig .tc sp' s e) (src : Memref sig .tc sp s e)
    (q : PosShare TreeShare) (X : s.Idx → Elt F e) : sProp 𝕄 :=
  Flight EC (c : Thread nD τ) (.dma sm) () dst.view.dmaCredit
    iprop(owns (c : Thread nD τ) dst fullShare X ∗ owns (c : Thread nD τ) src q X)

section Copy

variable (c : Dev nD) {sp sp' : Space} {s : Shape} {e : EltTy} {src src' : Memref sig .tc sp s e} {dst dst' : Memref sig .tc sp' s e}
  {sm sm' : DmaSem sig}

theorem cp {Q : α → sProp 𝕄} (hs : src = src') (hd : dst = dst') (hm : sm = sm') (hne : 0 < s.numel) {hsrc : src.view.WordExact} {hdst : dst.view.WordExact}
    {hsem : DmaTarget.Typed (nD := nD) (τ := τ) sp (.dma sm) (.here (p := Proc.tc) dst)} {q : PosShare TreeShare} {X : s.Idx → Elt F e} :
    iprop(owns (c : Thread nD τ) src' q X ∗ any c dst' ∗ semVal ((c : Thread nD τ), .dma sm') 0)
      ⊢ iprop((fl c sm' dst' src' q X -∗ run (F := F) c (k ⟨⟩) Q)
        -∗ run c (.op (.enqueueDma src (.here dst) (.dma sm) hsrc hdst hsem) k) Q) := by
  subst hs hd hm
  rw [owns_def]
  iintro ⟨⟨%fs, %hfs, Hs⟩, ⟨%Y, Hd⟩, Hv⟩ Hk
  ihave Hd := (Entails.of_eq (owns_def c dst fullShare Y)) $$ Hd
  icases Hd with ⟨%fd, %hfd, Hd⟩
  subst hfs
  iapply (Transfers.wp_dmaLocal EC 𝒱₀ (c : Thread nD τ) none () dst.view.dmaCredit rfl (View.dmaCredit_pos _ hne) (Finset.Subset.refl _)) $$ [Hs Hd Hv]
  · isplitl [Hs]; · iexact Hs
    isplitl [Hd]; · iexact Hd
    iexact Hv
  iintro Hf
  iapply Hk
  unfold fl
  iapply (Transfers.Flight_mono EC (c : Thread nD τ) (sm := .dma sm) (ι := ()) (N := dst.view.dmaCredit) ?_) $$ Hf
  iintro ⟨Hd, Hs⟩
  isplitl [Hd]
  · iapply (owns_of c dst fullShare (View.read_write_univ _ _)) $$ Hd
  · iapply (owns_of c src q rfl) $$ Hs

theorem cpw {Q : α → sProp 𝕄} (n : ℕ) {sp₁ sp₂ : Space} {s₁ s₂ : Shape} {e₁ e₂ : EltTy} {srcw : Memref sig .tc sp₁ s₁ e₁} {dstw : Memref sig .tc sp₂ s₂ e₂}
    (hm : sm = sm') (hN : dstw.view.dmaCredit = dst'.view.dmaCredit) (hk : ∀ k, csem k ≠ .dma sm')
    {hsrc : srcw.view.WordExact} {hdst : dstw.view.WordExact} {q : PosShare TreeShare} {X : s.Idx → Elt F e} :
    iprop(known m ∗ fl c sm' dst' src' q X ∗ ow c n)
      ⊢ iprop((iprop(owns (c : Thread nD τ) dst' fullShare X ∗ owns (c : Thread nD τ) src' q X ∗ semVal ((c : Thread nD τ), .dma sm') 0 ∗ ow c n)
          -∗ run (F := F) c (k ⟨⟩) Q)
        -∗ run c (.op (.waitDma2 sm srcw dstw hsrc hdst) k) Q) := by
  subst hm
  unfold fl ow
  iintro ⟨#Hkn, Hf, ⟨%W, Ho⟩⟩ Hk
  iapply (Transfers.wp_waitLocalO EC 𝒱₀ (c : Thread nD τ) none () hN) $$ [Hf Ho]
  · isplitl [Hf]; · iexact Hf
    isplitl [Ho]; · iexact Ho
    iapply (mayWait c (.dma sm) n 0 (le_of_eq (lv_other c _ hk)) (fun i _ => debt_lt c i))
    iapply (known_lev m); iexact Hkn
  iintro ⟨⟨Hd, Hs⟩, Hv, Ho⟩
  iapply Hk
  isplitl [Hd]; · iexact Hd
  isplitl [Hs]; · iexact Hs
  isplitl [Hv]; · iexact Hv
  iexists _; iexact Ho

end Copy

/-! ## Meeting the other devices -/

/-- A payment into the barrier of `p`: the slots of device `c` that `p` fills. -/
theorem sig_step {Q : α → sProp 𝕄} (c p : Dev nD) (n : ℕ) (hn : debtCell c n = (p, .bar)) (hcp : c ≠ p) {dst : Dev nD} (hd : dst = p) {k' : ℕ} (hk : k' = 1) :
    iprop(known m ∗ ow c (n + 1) ∗ dutyTok ER (kcell (p, .bar)) 0 c ∗ any c (gS p) ∗ any c (aS p))
      ⊢ iprop((ow c n -∗ run (F := F) c (k ⟨⟩) Q) -∗ run c (.op (.semSignal (dst : Thread nD τ) barS k') k) Q) := by
  subst hd hk
  unfold ow
  iintro ⟨#Hkn, ⟨%W, Ho⟩, Ht, Hg, Ha⟩ Hk
  ihave #Hi := (known_inv m (dst, .bar)) $$ Hkn
  icases Hi with ⟨%κ, Hi, Hr⟩
  iapply (Rounds.wp_signal 𝒱₀ ER (sched m) (c : Thread nD τ) none (dst := (dst : Thread nD τ)) (κ := κ) (r := 0) (d := c)
      (by rw [show (((dst : Thread nD τ), SemLoc.reg barS) : GSem nD τ sig) = kcell (dst, .bar) from rfl, duties_cell]; exact Finset.mem_erase.mpr ⟨hcp, Finset.mem_univ _⟩)
      (amount_cell m (dst, .bar) c) () (O₀ := Ow c (n + 1)) (Ow c n) (by rw [Ow_succ, hn])) $$ [Ho Ht Hg Ha]
  · isplitr; · iexact Hi
    isplitl [Ho]; · iexact Ho
    isplitl [Ht]; · iexact Ht
    isplitl [Hg Ha]
    · rw [show (((dst : Thread nD τ), SemLoc.reg barS) : GSem nD τ sig) = kcell (dst, .bar) from rfl, payload_cell]
      dsimp only [payN]
      isplitl [Hg]; · iexact Hg
      iexact Ha
    iexact Hr
  iintro Ho
  iapply Hk
  iexists W; iexact Ho

/-- A wait for the whole of a cell's round, after which the cell closes. -/
theorem pwait {Q : α → sProp 𝕄} (c : Dev nD) (κc : Cell) (n : ℕ) {w : TpuEff nD τ sig (Elt F) Λ₀ .tc PUnit} {k' : ℕ}
    (hw : ∀ K : PUnit → sProp 𝕄, wpE (defs₀ (F := F)) 𝒱₀ (c : Thread nD τ) none Set.univ w K = waitSpec (c : Thread nD τ) Set.univ (csem κc) k' K)
    (hk : k' = (dutiesN (c, κc)).card * amtN (c, κc)) (hl : ∀ i, i < n → lvN (c, κc) < lvN (debtCell c i)) :
    iprop(known m ∗ cred (tallyAt (kcell (c, κc)) () k') ∗ ow c n ∗ atPos ER (kcell (c, κc)) 0 ∅ 0)
      ⊢ iprop((iprop(ow c n ∗ semVal (kcell (c, κc)) 0 ∗ bigSep (dutiesN (c, κc)) (payN m (c, κc))) -∗ run (F := F) c (k ⟨⟩) Q)
        -∗ run c (.op w k) Q) := by
  unfold ow
  iintro ⟨#Hkn, Hc, ⟨%W, Ho⟩, Hp⟩ Hk
  ihave #Hi := (known_inv m (c, κc)) $$ Hkn
  icases Hi with ⟨%κ, Hi, -⟩
  iapply (Rounds.wp_wait_rest_token 𝒱₀ ER (sched m) (c : Thread nD τ) none (κ := κ) (sm := csem κc) hw (Set.mem_univ _) () (O := Ow c n) (W := W) (R := 0) (m := 0) (T := ∅)
      (by rw [Nat.zero_add, hk]; exact (expect_cell m (c, κc)).symm)) $$ [Hc Ho Hp]
  · isplitr; · iexact Hi
    isplitl [Hc]; · iexact Hc
    isplitl [Ho]; · iexact Ho
    isplitr
    · iapply (mayWait c (csem κc) n (lvN (c, κc)) (le_of_eq (lv_cell (c, κc))) hl)
      iapply (known_lev m); iexact Hkn
    iexact Hp
  iintro ⟨Ho, Hp, -, Hpay⟩
  ihave Hpay := (Entails.of_eq (rest_cell m (c, κc))) $$ Hpay
  imod (Rounds.cell_close ER (sched m) (Set.mem_univ κ) (fun h => h) (R := 0 + 1) (duties_later m (kcell (c, κc)))) $$ [Hp] with Hz
  · isplitr; · iexact Hi
    iexact Hp
  iapply Hk
  isplitl [Ho]; · iexists _; iexact Ho
  isplitl [Hz]; · iexact Hz
  iexact Hpay

/-- The same for a cell with one payment, waited for by a transfer's wait. -/
theorem dwait {Q : α → sProp 𝕄} (c : Dev nD) (κc : Cell) (p : Dev nD) (n : ℕ) (hd : dutiesN (c, κc) = {p}) {sm sm' : DmaSem sig} (hs : csem κc = .dma sm') (hm : sm = sm')
    {sp₁ sp₂ : Space} {s₁ s₂ : Shape} {e₁ e₂ : EltTy} {srcw : Memref sig .tc sp₁ s₁ e₁} {dstw : Memref sig .tc sp₂ s₂ e₂}
    (hN : dstw.view.dmaCredit = amtN (c, κc)) (hl : ∀ i, i < n → lvN (c, κc) < lvN (debtCell c i))
    {hsrc : srcw.view.WordExact} {hdst : dstw.view.WordExact} :
    iprop(known m ∗ cred (tallyAt (kcell (c, κc)) () (amtN (c, κc))) ∗ ow c n ∗ atPos ER (kcell (c, κc)) 0 ∅ 0)
      ⊢ iprop((iprop(ow c n ∗ semVal (kcell (c, κc)) 0 ∗ payN m (c, κc) p) -∗ run (F := F) c (k ⟨⟩) Q)
        -∗ run c (.op (.waitDma2 sm srcw dstw hsrc hdst) k) Q) := by
  subst hm
  rw [← hN]
  iintro H Hk
  iapply (pwait m c κc n (k' := dstw.view.dmaCredit) (by rw [hs]; exact wpE_waitDma2_eq 𝒱₀ (c : Thread nD τ) none Set.univ)
    (by rw [hd, Finset.card_singleton, one_mul, hN]) hl) $$ H
  iintro ⟨H1, H2, H3⟩
  ihave H3 := (Entails.of_eq (show (bigSep (dutiesN (c, κc)) (payN m (c, κc)) : sProp 𝕄) = payN m (c, κc) p by rw [hd, bigSep_singleton])) $$ H3
  iapply Hk
  isplitl [H1]; · iexact H1
  isplitl [H2]; · iexact H2
  iexact H3

/-- A transfer to another device, paying its receive cell `kr` and the device's own send cell `ks`. -/
theorem snd {Q : α → sProp 𝕄} (c p : Dev nD) (ks kr : Cell) (n : ℕ) (hn : debtCell c n = (p, kr)) (hds : c ∈ dutiesN (c, ks)) (hdr : c ∈ dutiesN (p, kr))
    (ha : amtN (c, ks) = amtN (p, kr))
    {dv : Dev nD} (hdv : dv = p) {sp sp' : Space} {s : Shape} {e : EltTy} {src src' : Memref sig .tc sp s e} {dst dst' : Memref sig .tc sp' s e}
    {ss rs : DmaSem sig} (hs : src = src') (hd : dst = dst') (hss : .dma ss = csem ks) (hrs : .dma rs = csem kr)
    (hN : dst'.view.dmaCredit = amtN (p, kr))
    {hsrc : src.view.WordExact} {hdst : dst.view.WordExact} {hsc : dst.view.ref.isScScratch = false}
    {hsem : DmaTarget.Typed (nD := nD) (τ := τ) sp (.dma rs) (.remote (dv : Thread nD τ) dst (.dma ss) hsc)}
    {q : PosShare TreeShare} {X : s.Idx → Elt F e}
    (hp₁ : (owns (c : Thread nD τ) src' q X : sProp 𝕄) ⊢ payN m (c, ks) c)
    (hp₂ : (owns (p : Thread nD τ) dst' fullShare X : sProp 𝕄) ⊢ payN m (p, kr) c) :
    iprop(known m ∗ owns (c : Thread nD τ) src' q X ∗ any p dst' ∗ ow c (n + 1) ∗ dutyTok ER (kcell (c, ks)) 0 c ∗ dutyTok ER (kcell (p, kr)) 0 c)
      ⊢ iprop((iprop(cred (tallyAt (kcell (c, ks)) () (amtN (c, ks))) ∗ ow c n) -∗ run (F := F) c (k ⟨⟩) Q)
        -∗ run c (.op (.enqueueDma src (.remote (dv : Thread nD τ) dst (.dma ss) hsc) (.dma rs) hsrc hdst hsem) k) Q) := by
  subst hs hd hdv
  unfold ow
  iintro ⟨#Hkn, Hs, ⟨%Y, Hd⟩, ⟨%W, Ho⟩, Ht1, Ht2⟩ Hk
  ihave Hd := (Entails.of_eq (owns_def dv dst fullShare Y)) $$ Hd
  icases Hd with ⟨%fd, %hfd, Hd⟩
  ihave Hs := (Entails.of_eq (owns_def c src q X)) $$ Hs
  icases Hs with ⟨%fs, %hfs, Hs⟩
  subst hfs
  ihave #Hi1 := (known_inv m (c, ks)) $$ Hkn
  icases Hi1 with ⟨%κ1, Hi1, Hr1⟩
  ihave #Hi2 := (known_inv m (dv, kr)) $$ Hkn
  icases Hi2 with ⟨%κ2, Hi2, Hr2⟩
  have e1 : (((c : Thread nD τ), SemLoc.dma ss) : GSem nD τ sig) = kcell (c, ks) := congrArg (Prod.mk _) hss
  have e2 : (((dv : Thread nD τ), SemLoc.dma rs) : GSem nD τ sig) = kcell (dv, kr) := congrArg (Prod.mk _) hrs
  have key := Rounds.wp_send_pointsTo (Γ := .empty) (defs := defs₀ (F := F)) 𝒱₀ ER (sched m) (c : Thread nD τ) none (c' := (dv : Thread nD τ)) (src := src) (hsrc := hsrc) (hdst := hdst) (hsem := hsem) (k := k) (Q := Q) (Es := Set.univ) (κ₁ := κ1) (κ₂ := κ2)
    (r₁ := 0) (r₂ := 0) (d₁ := c) (d₂ := c) (fd := fd) (fs := fs) (q := q) (dst := dst) (sem := .dma rs) (sS := .dma ss) (O₀ := Ow c (n + 1))
    (by rw [e1, duties_cell]; exact hds) (by rw [e2, duties_cell]; exact hdr)
    () () (amtN (c, ks)) (by exact hN.trans ha.symm) (by rw [e1]; exact amount_cell m (c, ks) c) (by rw [e2, ha]; exact amount_cell m (dv, kr) c) (Ow c n)
    (by rw [Ow_succ, hn, e2, ha]) (W := W)
    (by
      rw [e1, payload_cell]
      exact BI.Entails.trans (owns_of c src q rfl) hp₁)
    (by
      rw [e2, payload_cell]
      exact BI.Entails.trans (owns_of dv dst fullShare (View.read_write_univ _ _)) hp₂)
  iapply key $$ [Hs Hd Ho Ht1 Ht2]
  · rw [e1, e2]
    isplitr; · iexact Hi1
    isplitr; · iexact Hi2
    isplitl [Hs]; · iexact Hs
    isplitl [Hd]; · iexact Hd
    isplitl [Ho]; · iexact Ho
    isplitl [Ht1]; · iexact Ht1
    isplitr; · iexact Hr1
    isplitl [Ht2]; · iexact Ht2
    iexact Hr2
  rw [e1]
  iintro ⟨Hc, Ho⟩
  iapply Hk
  isplitl [Hc]; · iexact Hc
  iexists W; iexact Ho

/-- A cell nobody pays into closes unused. -/
theorem unused (ck : Dev nD × Cell) (hd : dutiesN ck = ∅) :
    iprop(known m ∗ atPos ER (kcell ck) 0 ∅ 0) ⊢ (|={Set.univ}=> semVal (kcell ck) 0 : sProp 𝕄) := by
  iintro ⟨#Hkn, Hp⟩
  ihave #Hi := (known_inv m ck) $$ Hkn
  icases Hi with ⟨%κ, Hi, -⟩
  iapply (Rounds.cell_close ER (sched m) (Set.mem_univ κ) (fun h => h) (R := 0)
    (fun r _ => by
      by_cases hr : r = 0
      · rw [hr, duties_cell, hd]
      · exact duties_later m _ r (Nat.one_le_iff_ne_zero.mpr hr)))
  isplitr; · iexact Hi
  iexact Hp

end Cert.Run
-- ==== Proof.Copies.lean ====
/- The places the kernel computes its blocks from, and the copies of blocks into the two staging slots. -/
module

public import proofs.«01_k».proof.Proof.Steps

@[expose] public section

set_option maxRecDepth 16384

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

/-! ## Places -/

set_option backward.proofsInPublic true in
/-- The staging slot of the right operand's block at grid point `t`. -/
def bF (t : ℕ) : Fin 2 := ⟨t % 2, Nat.mod_lt _ (by decide)⟩

theorem bF_add_two (t : ℕ) : bF (t + 2) = bF t := Fin.ext (Nat.add_mod_right t 2)

theorem off6_zero : ∀ d : Dev nD, k0_off6 d 0#32 0#32 = ![1024 * (ksrc d (0 / 8)).val, 1024 * (nF 0).val] := by decide +kernel
theorem off6_one : ∀ d : Dev nD, k0_off6 d 1#32 1#32 = ![1024 * (ksrc d (1 / 8)).val, 1024 * (nF 1).val] := by decide +kernel
theorem off11_at : ∀ (t : Fin cfg0.N) (d : Dev nD), t.val < 31 →
    k0_off11 (grid0.coords t) d = ![1024 * (ksrc d ((t.val + 1) / 8)).val, 1024 * (nF (t.val + 1)).val] := by decide +kernel
theorem off16_at : ∀ (t : Fin cfg0.N) (d : Dev nD),
    k0_off16 (grid0.coords t) d = ![1024 * (ksrc d (t.val / 8)).val, 1024 * (nF t.val).val] := by decide +kernel
theorem off12_at : ∀ (t : Fin cfg0.N) (d : Dev nD), k0_off12 (grid0.coords t) d = ![(ksrc d (t.val / 8)).val] := by decide +kernel
theorem off13_at : ∀ (t : Fin cfg0.N) (d : Dev nD), k0_off13 (grid0.coords t) d = ![(ksrc d (t.val / 8)).val, 0, 0] := by decide +kernel
theorem off17_at : ∀ (t : Fin cfg0.N) (d : Dev nD), k0_off17 (grid0.coords t) d = ![(ksrc d (t.val / 8)).val, 0, 0] := by decide +kernel
theorem off9_at : ∀ t : Fin cfg0.N, k0_off9 (grid0.coords t) = ![(bF (t.val + 1)).val] := by decide +kernel
theorem off10_at : ∀ t : Fin cfg0.N, k0_off10 (grid0.coords t) = ![(bF (t.val + 1)).val, 0, 0] := by decide +kernel
theorem off14_at : ∀ t : Fin cfg0.N, k0_off14 (grid0.coords t) = ![(bF t.val).val] := by decide +kernel
theorem off15_at : ∀ t : Fin cfg0.N, k0_off15 (grid0.coords t) = ![(bF t.val).val, 0, 0] := by decide +kernel
theorem off18_at : ∀ t : Fin cfg0.N, k0_off18 (grid0.coords t) = ![(bF t.val).val, 0, 0] := by decide +kernel
theorem off19_at : ∀ t : Fin cfg0.N, k0_off19 (grid0.coords t) = ![0, 1024 * (nF t.val).val] := by decide +kernel
theorem off20_at : ∀ t : Fin cfg0.N, k0_off20 (grid0.coords t) = ![0, 1024 * (nF t.val).val] := by decide +kernel
theorem off21_at : ∀ t : Fin cfg0.N, k0_off21 (grid0.coords t) = ![0, 1024 * (nF t.val).val] := by decide +kernel

theorem cond1_at : ∀ t : Fin cfg0.N, k0_cond1 (grid0.coords t) = 1#1 ↔ t.val = 0 := by decide +kernel
theorem cond2_at : ∀ t : Fin cfg0.N, k0_cond2 (grid0.coords t) = 1#1 ↔ t.val = 8 := by decide +kernel
theorem cond3_at : ∀ t : Fin cfg0.N, k0_cond3 (grid0.coords t) = 1#1 ↔ (0 < t.val ∧ t.val < 31) := by decide +kernel
theorem cond4_at : ∀ t : Fin cfg0.N, k0_cond4 (grid0.coords t) = 1#1 ↔ (0 < t.val / 8 ∧ t.val % 8 = 0) := by decide +kernel
theorem cond5_at : ∀ t : Fin cfg0.N, k0_cond5 (grid0.coords t) = 1#1 ↔ t.val / 8 = 0 := by decide +kernel
theorem cond6_at : ∀ t : Fin cfg0.N, k0_cond6 (grid0.coords t) = 1#1 ↔ (t.val / 8 = 1 ∨ t.val / 8 = 2) := by decide +kernel
theorem cond7_at : ∀ t : Fin cfg0.N, k0_cond7 (grid0.coords t) = 1#1 ↔ t.val / 8 = 3 := by decide +kernel
theorem cond8_at : ∀ t : Fin cfg0.N, k0_cond8 (grid0.coords t) = 1#1 ↔ t.val % 8 = 0 := by decide +kernel
theorem cond9_at : ∀ t : Fin cfg0.N, k0_cond9 (grid0.coords t) = 1#1 ↔ t.val % 8 ≠ 0 := by decide +kernel
theorem cond10_at : ∀ t : Fin cfg0.N, k0_cond10 (grid0.coords t) = 1#1 ↔ t.val = 31 := by decide +kernel

theorem off2_one (d : Dev nD) : k0_off2 d 1#32 = ![1024 * (pr d 0).val, 0] := k0_off2_eq d 0
theorem off2_two (d : Dev nD) : k0_off2 d 2#32 = ![1024 * (pr d 1).val, 0] := k0_off2_eq d 1
theorem off2_three (d : Dev nD) : k0_off2 d 3#32 = ![1024 * (pr d 2).val, 0] := k0_off2_eq d 2
theorem off27_one (d : Dev nD) : k0_off27 d 1#32 = ![(pr d 0).val] := k0_off27_eq d 0
theorem off27_two (d : Dev nD) : k0_off27 d 2#32 = ![(pr d 1).val] := k0_off27_eq d 1
theorem off27_three (d : Dev nD) : k0_off27 d 3#32 = ![(pr d 2).val] := k0_off27_eq d 2

theorem xB_of {off : Fin 2 → ℕ} {r : Dev nD} (h : off = ![1024 * r.val, 0]) {p : ∀ i, off i + S1024x1024.size i ≤ S4096x1024.size i} :
    xM.slice (Rect.unit (s := S4096x1024) off S1024x1024.size p) (fun _ => rfl) = xB r := by subst h; rfl
theorem wB_of {off : Fin 2 → ℕ} {r : Dev nD} {n : Fin 8} (h : off = ![1024 * r.val, 1024 * n.val]) {p : ∀ i, off i + S1024x1024.size i ≤ S4096x8192.size i} :
    wM.slice (Rect.unit (s := S4096x8192) off S1024x1024.size p) (fun _ => rfl) = wB r n := by subst h; rfl
theorem bQ_of {off : Fin 3 → ℕ} {j : Fin 2} (h : off = ![j.val, 0, 0]) {p : ∀ i, off i + S1x1024x1024.size i ≤ S2x1024x1024.size i} :
    (bM.slice (Rect.unit (s := S2x1024x1024) off S1x1024x1024.size p) (fun _ => rfl)).squeeze S1024x1024 squeezes_S1x1024x1024_S1024x1024 = bQ j := by subst h; rfl
theorem gQ_of {off : Fin 3 → ℕ} {k : Dev nD} (h : off = ![k.val, 0, 0]) {p : ∀ i, off i + S1x1024x1024.size i ≤ S4x1024x1024.size i} :
    (gM.slice (Rect.unit (s := S4x1024x1024) off S1x1024x1024.size p) (fun _ => rfl)).squeeze S1024x1024 squeezes_S1x1024x1024_S1024x1024 = gQ k := by subst h; rfl
theorem aQ_of {off : Fin 3 → ℕ} {k : Dev nD} (h : off = ![k.val, 0, 0]) {p : ∀ i, off i + S1x8x128.size i ≤ S4x8x128.size i} :
    (aM.slice (Rect.unit (s := S4x8x128) off S1x8x128.size p) (fun _ => rfl)).squeeze S8x128 squeezes_S1x8x128_S8x128 = aQ k := by subst h; rfl
theorem xsem_of {off : Fin 1 → ℕ} {j : Fin 2} (h : off = ![j.val]) {p : ∀ i, off i + S1.size i ≤ S2.size i} :
    ((cc0_scratch5.slice (Rect.unit (s := S2) off S1.size p)).squeeze S_ squeezes_S1_S_).sem = xsem j := by subst h; rfl
theorem wsem_of {off : Fin 1 → ℕ} {j : Fin 2} (h : off = ![j.val]) {p : ∀ i, off i + S1.size i ≤ S2.size i} :
    ((cc0_scratch6.slice (Rect.unit (s := S2) off S1.size p)).squeeze S_ squeezes_S1_S_).sem = wsem j := by subst h; rfl
theorem recvS_of {off : Fin 1 → ℕ} {k : Dev nD} (h : off = ![k.val]) {p : ∀ i, off i + S1.size i ≤ S4.size i} :
    ((cc0_scratch9.slice (Rect.unit (s := S4) off S1.size p)).squeeze S_ squeezes_S1_S_).sem = recvS k := by subst h; rfl
theorem arecvS_of {off : Fin 1 → ℕ} {k : Dev nD} (h : off = ![k.val]) {p : ∀ i, off i + S1.size i ≤ S4.size i} :
    ((cc0_scratch11.slice (Rect.unit (s := S4) off S1.size p)).squeeze S_ squeezes_S1_S_).sem = arecvS k := by subst h; rfl

theorem csem_xsem : ∀ (j : Fin 2) (k : Cell), csem k ≠ .dma (xsem j) := by decide +kernel
theorem csem_wsem : ∀ (j : Fin 2) (k : Cell), csem k ≠ .dma (wsem j) := by decide +kernel
theorem csem_ysem : ∀ (j : Fin 2) (k : Cell), csem k ≠ .dma (ysem j) := by decide +kernel

/-! ## Blocks of the operands -/

/-- The share of an operand that copies on semaphore `j` read through. -/
def half : Fin 2 → PosShare TreeShare
  | 0 => fullShare.left
  | 1 => fullShare.right

variable (m : (ℓ : Loc nD τ sig) → Buf (Elt F) ℓ)

/-- One half of an operand, at hand, with its semaphore idle. -/
def xidle (c : Dev nD) (j : Fin 2) : sProp 𝕄 :=
  iprop(owns (c : Thread nD τ) xM (half j) (xin m c) ∗ semVal ((c : Thread nD τ), .dma (xsem j)) 0)
def widle (c : Dev nD) (j : Fin 2) : sProp 𝕄 :=
  iprop(owns (c : Thread nD τ) wM (half j) (win m c) ∗ semVal ((c : Thread nD τ), .dma (wsem j)) 0)
/-- A block of an operand on its way to staging slot `j`. -/
def xfl (c : Dev nD) (j : Fin 2) (r : Dev nD) : sProp 𝕄 :=
  iprop(fl c (xsem j) (bQ j) (xB r) (half j) (xblk m c r) ∗ kept c xM (half j) (xR r) (xin m c))
def wfl (c : Dev nD) (j : Fin 2) (r : Dev nD) (n : Fin 8) : sProp 𝕄 :=
  iprop(fl c (wsem j) (bQ j) (wB r n) (half j) (wblk m c r n) ∗ kept c wM (half j) (wR r n) (win m c))

theorem any_squeeze (c : Dev nD) {sp : Space} {s s' : Shape} {e : EltTy} (M : Memref sig .tc sp s e) (hq : s.Squeezes s') (h : s'.ShapeCasts s) :
    any c M ⊢ (any c (M.squeeze s' hq) : sProp 𝕄) := by
  iintro ⟨%X, H⟩
  iexists (shapeCast s' X h.symm)
  iapply (Entails.of_eq (owns_squeeze c M fullShare hq h (shapeCast s' X h.symm)).symm)
  iapply (Entails.of_eq (congrArg (owns (c : Thread nD τ) M fullShare) (Idealize.ShloMosaic.shapeCast_shapeCast X h.symm h).symm)) $$ H

theorem squeeze_any (c : Dev nD) {sp : Space} {s s' : Shape} {e : EltTy} (M : Memref sig .tc sp s e) (hq : s.Squeezes s') (h : s'.ShapeCasts s) :
    any c (M.squeeze s' hq) ⊢ (any c M : sProp 𝕄) := by
  iintro ⟨%X, H⟩
  iexists (shapeCast s X h)
  iapply (Entails.of_eq (owns_squeeze c M fullShare hq h X)) $$ H

theorem squeeze_owns (c : Dev nD) {sp : Space} {s s' : Shape} {e : EltTy} (M : Memref sig .tc sp s e) (hq : s.Squeezes s') (h : s.ShapeCasts s') (q : PosShare TreeShare) (X : s.Idx → Elt F e) :
    owns (c : Thread nD τ) M q X ⊢ (owns (c : Thread nD τ) (M.squeeze s' hq) q (shapeCast s' X h) : sProp 𝕄) := by
  rw [owns_squeeze c M q hq h.symm, Idealize.ShloMosaic.shapeCast_shapeCast]

section

variable {α : Type} {k : PUnit → Prog (TpuEff nD τ sig (Elt F) Λ₀ .tc) α} (c : Dev nD)

theorem xcp {Q : α → sProp 𝕄} (j : Fin 2) (r : Dev nD)
    {offx : Fin 2 → ℕ} {offb : Fin 3 → ℕ} {offs : Fin 1 → ℕ}
    (hx : offx = ![1024 * r.val, 0]) (hb : offb = ![j.val, 0, 0]) (hs : offs = ![j.val])
    {px : ∀ i, offx i + S1024x1024.size i ≤ S4096x1024.size i} {pb : ∀ i, offb i + S1x1024x1024.size i ≤ S2x1024x1024.size i} {ps : ∀ i, offs i + S1.size i ≤ S2.size i}
    {hsrc : ((xM).slice (Rect.unit (s := S4096x1024) offx S1024x1024.size px) (fun _ => rfl)).view.WordExact}
    {hdst : ((bM.slice (Rect.unit (s := S2x1024x1024) offb S1x1024x1024.size pb) (fun _ => rfl)).squeeze S1024x1024 squeezes_S1x1024x1024_S1024x1024).view.WordExact}
    {hsem : DmaTarget.Typed (nD := nD) (τ := τ) .hbm (.dma ((cc0_scratch5.slice (Rect.unit (s := S2) offs S1.size ps)).squeeze S_ squeezes_S1_S_).sem)
      (.here (p := Proc.tc) ((bM.slice (Rect.unit (s := S2x1024x1024) offb S1x1024x1024.size pb) (fun _ => rfl)).squeeze S1024x1024 squeezes_S1x1024x1024_S1024x1024))} :
    iprop(xidle m c j ∗ any c (bS j))
      ⊢ iprop((xfl m c j r -∗ run c (k ⟨⟩) Q)
        -∗ run c (.op (.enqueueDma ((xM).slice (Rect.unit (s := S4096x1024) offx S1024x1024.size px) (fun _ => rfl))
          (.here ((bM.slice (Rect.unit (s := S2x1024x1024) offb S1x1024x1024.size pb) (fun _ => rfl)).squeeze S1024x1024 squeezes_S1x1024x1024_S1024x1024))
          (.dma ((cc0_scratch5.slice (Rect.unit (s := S2) offs S1.size ps)).squeeze S_ squeezes_S1_S_).sem) hsrc hdst hsem) k) Q) := by
  unfold xidle xfl
  iintro ⟨⟨Hx, Hv⟩, Hb⟩ Hk
  ihave Hx := (lend c xM (half j) (xR r) (fun _ => rfl) (xin m c)) $$ Hx
  icases Hx with ⟨Hx, Hkeep⟩
  ihave Hb := (any_squeeze c (bS j) squeezes_S1x1024x1024_S1024x1024 shapeCasts_S1024x1024_S1x1024x1024) $$ Hb
  iapply (cp c (xB_of hx) (bQ_of hb) (xsem_of hs) (show 0 < S1024x1024.numel by decide) (q := half j) (X := xblk m c r)) $$ [Hx Hv Hb]
  · isplitl [Hx]; · iexact Hx
    isplitl [Hb]; · iexact Hb
    iexact Hv
  iintro Hf
  iapply Hk
  isplitl [Hf]; · iexact Hf
  iexact Hkeep

theorem xwt {Q : α → sProp 𝕄} (j : Fin 2) (r : Dev nD) (n' : ℕ)
    {offs : Fin 1 → ℕ} (hs : offs = ![j.val]) {ps : ∀ i, offs i + S1.size i ≤ S2.size i}
    {sp₁ sp₂ : Space} {s₁ s₂ : Shape} {e₁ e₂ : EltTy} {srcw : Memref sig .tc sp₁ s₁ e₁} {dstw : Memref sig .tc sp₂ s₂ e₂}
    (hN : dstw.view.dmaCredit = (bQ j).view.dmaCredit) {hsrc : srcw.view.WordExact} {hdst : dstw.view.WordExact} :
    iprop(known m ∗ xfl m c j r ∗ ow c n')
      ⊢ iprop((iprop(owns (c : Thread nD τ) (bS j) fullShare (up (xblk m c r)) ∗ xidle m c j ∗ ow c n') -∗ run c (k ⟨⟩) Q)
        -∗ run c (.op (.waitDma2 ((cc0_scratch5.slice (Rect.unit (s := S2) offs S1.size ps)).squeeze S_ squeezes_S1_S_).sem srcw dstw hsrc hdst) k) Q) := by
  unfold xidle xfl
  iintro ⟨#Hkn, ⟨Hf, Hkeep⟩, Ho⟩ Hk
  iapply (cpw m c n' (xsem_of hs) hN (csem_xsem j) (q := half j) (X := xblk m c r)) $$ [Hf Ho]
  · isplitr; · iexact Hkn
    isplitl [Hf]; · iexact Hf
    iexact Ho
  iintro ⟨Hd, Hs, Hv, Ho⟩
  iapply Hk
  isplitl [Hd]
  · iapply (Entails.of_eq (owns_squeeze c (bS j) fullShare squeezes_S1x1024x1024_S1024x1024 shapeCasts_S1024x1024_S1x1024x1024 _)) $$ Hd
  isplitl [Hs Hkeep Hv]
  · isplitl [Hs Hkeep]
    · iapply (restore c xM (half j) (xR r) (fun _ => rfl) (xin m c))
      isplitl [Hs]; · iexact Hs
      iexact Hkeep
    iexact Hv
  iexact Ho

theorem wcp {Q : α → sProp 𝕄} (j : Fin 2) (r : Dev nD) (n : Fin 8)
    {offx : Fin 2 → ℕ} {offb : Fin 3 → ℕ} {offs : Fin 1 → ℕ}
    (hx : offx = ![1024 * r.val, 1024 * n.val]) (hb : offb = ![j.val, 0, 0]) (hs : offs = ![j.val])
    {px : ∀ i, offx i + S1024x1024.size i ≤ S4096x8192.size i} {pb : ∀ i, offb i + S1x1024x1024.size i ≤ S2x1024x1024.size i} {ps : ∀ i, offs i + S1.size i ≤ S2.size i}
    {hsrc : ((wM).slice (Rect.unit (s := S4096x8192) offx S1024x1024.size px) (fun _ => rfl)).view.WordExact}
    {hdst : ((bM.slice (Rect.unit (s := S2x1024x1024) offb S1x1024x1024.size pb) (fun _ => rfl)).squeeze S1024x1024 squeezes_S1x1024x1024_S1024x1024).view.WordExact}
    {hsem : DmaTarget.Typed (nD := nD) (τ := τ) .hbm (.dma ((cc0_scratch6.slice (Rect.unit (s := S2) offs S1.size ps)).squeeze S_ squeezes_S1_S_).sem)
      (.here (p := Proc.tc) ((bM.slice (Rect.unit (s := S2x1024x1024) offb S1x1024x1024.size pb) (fun _ => rfl)).squeeze S1024x1024 squeezes_S1x1024x1024_S1024x1024))} :
    iprop(widle m c j ∗ any c (bS j))
      ⊢ iprop((wfl m c j r n -∗ run c (k ⟨⟩) Q)
        -∗ run c (.op (.enqueueDma ((wM).slice (Rect.unit (s := S4096x8192) offx S1024x1024.size px) (fun _ => rfl))
          (.here ((bM.slice (Rect.unit (s := S2x1024x1024) offb S1x1024x1024.size pb) (fun _ => rfl)).squeeze S1024x1024 squeezes_S1x1024x1024_S1024x1024))
          (.dma ((cc0_scratch6.slice (Rect.unit (s := S2) offs S1.size ps)).squeeze S_ squeezes_S1_S_).sem) hsrc hdst hsem) k) Q) := by
  unfold widle wfl
  iintro ⟨⟨Hx, Hv⟩, Hb⟩ Hk
  ihave Hx := (lend c wM (half j) (wR r n) (fun _ => rfl) (win m c)) $$ Hx
  icases Hx with ⟨Hx, Hkeep⟩
  ihave Hb := (any_squeeze c (bS j) squeezes_S1x1024x1024_S1024x1024 shapeCasts_S1024x1024_S1x1024x1024) $$ Hb
  iapply (cp c (wB_of hx) (bQ_of hb) (wsem_of hs) (show 0 < S1024x1024.numel by decide) (q := half j) (X := wblk m c r n)) $$ [Hx Hv Hb]
  · isplitl [Hx]; · iexact Hx
    isplitl [Hb]; · iexact Hb
    iexact Hv
  iintro Hf
  iapply Hk
  isplitl [Hf]; · iexact Hf
  iexact Hkeep

theorem wwt {Q : α → sProp 𝕄} (j : Fin 2) (r : Dev nD) (n : Fin 8) (n' : ℕ)
    {offs : Fin 1 → ℕ} (hs : offs = ![j.val]) {ps : ∀ i, offs i + S1.size i ≤ S2.size i}
    {sp₁ sp₂ : Space} {s₁ s₂ : Shape} {e₁ e₂ : EltTy} {srcw : Memref sig .tc sp₁ s₁ e₁} {dstw : Memref sig .tc sp₂ s₂ e₂}
    (hN : dstw.view.dmaCredit = (bQ j).view.dmaCredit) {hsrc : srcw.view.WordExact} {hdst : dstw.view.WordExact} :
    iprop(known m ∗ wfl m c j r n ∗ ow c n')
      ⊢ iprop((iprop(owns (c : Thread nD τ) (bS j) fullShare (up (wblk m c r n)) ∗ widle m c j ∗ ow c n') -∗ run c (k ⟨⟩) Q)
        -∗ run c (.op (.waitDma2 ((cc0_scratch6.slice (Rect.unit (s := S2) offs S1.size ps)).squeeze S_ squeezes_S1_S_).sem srcw dstw hsrc hdst) k) Q) := by
  unfold widle wfl
  iintro ⟨#Hkn, ⟨Hf, Hkeep⟩, Ho⟩ Hk
  iapply (cpw m c n' (wsem_of hs) hN (csem_wsem j) (q := half j) (X := wblk m c r n)) $$ [Hf Ho]
  · isplitr; · iexact Hkn
    isplitl [Hf]; · iexact Hf
    iexact Ho
  iintro ⟨Hd, Hs, Hv, Ho⟩
  iapply Hk
  isplitl [Hd]
  · iapply (Entails.of_eq (owns_squeeze c (bS j) fullShare squeezes_S1x1024x1024_S1024x1024 shapeCasts_S1024x1024_S1x1024x1024 _)) $$ Hd
  isplitl [Hs Hkeep Hv]
  · isplitl [Hs Hkeep]
    · iapply (restore c wM (half j) (wR r n) (fun _ => rfl) (win m c))
      isplitl [Hs]; · iexact Hs
      iexact Hkeep
    iexact Hv
  iexact Ho

end

end Cert.Run
-- ==== Proof.Opening.lean ====
/- The first grid point's opening: the devices meet, and each sends its rounded rows to the others. -/
module

public import proofs.«01_k».proof.Proof.Copies

@[expose] public section

set_option maxRecDepth 16384

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Names for what a device holds of the meeting places -/

/-- Device `c`'s place in its own cell: nothing waited for yet. -/
abbrev atp (c : Dev nD) (k : Cell) : sProp 𝕄 := atPos ER (kcell (c, k)) 0 ∅ 0
/-- One payment into the cell, to be waited for. -/
abbrev crd (c : Dev nD) (k : Cell) : sProp 𝕄 := cred (tallyAt (kcell (c, k)) () (amtN (c, k)))
/-- The cell is closed, its counter at zero. -/
abbrev sv0 (c : Dev nD) (k : Cell) : sProp 𝕄 := semVal (kcell (c, k)) 0
/-- The right of `c` to pay into the cell `k` of device `p`. -/
abbrev tk (p : Dev nD) (k : Cell) (c : Dev nD) : sProp 𝕄 := dutyTok ER (kcell (p, k)) 0 c

theorem others (c : Dev nD) (Φ : Dev nD → sProp 𝕄) :
    bigSep (Finset.univ.erase c) Φ = iprop(Φ (pr c 0) ∗ Φ (pr c 1) ∗ Φ (pr c 2)) := by
  rw [show (Finset.univ.erase c : Finset (Dev nD)) = insert (pr c 0) (insert (pr c 1) {pr c 2}) by revert c; decide,
    bigSep_insert (by revert c; decide), bigSep_insert (by revert c; decide), bigSep_singleton]
  rfl

theorem all_devs (c : Dev nD) (Φ : Dev nD → sProp 𝕄) :
    bigSep Finset.univ Φ = iprop(Φ c ∗ Φ (pr c 0) ∗ Φ (pr c 1) ∗ Φ (pr c 2)) := by
  rw [bigSep_univ_at Φ c, others]

theorem done {α : Type} {Q : α → sProp 𝕄} {v : α} (c : Dev nD) : Q v ⊢ run (F := F) c (.ret v) Q := by
  unfold run
  rw [wp_ret]
  iintro H
  imodintro
  iexact H

variable (m : (ℓ : Loc nD τ sig) → Buf (Elt F) ℓ)

/-- A send of rounded rows to device `p`. -/
theorem sndx {α : Type} {k : PUnit → Prog (TpuEff nD τ sig (Elt F) Λ₀ .tc) α} {Q : α → sProp 𝕄} (c p : Dev nD) (j : Fin 3) (n : ℕ)
    (hn : debtCell c n = (p, .recv c)) (hcp : c ≠ p) {dv : Dev nD} (hdv : dv = p)
    {src dst : Memref sig .tc .vmem S1024x1024 .bf16} {ss rs : DmaSem sig} (hs : src = sQ j) (hd : dst = gQ c) (hss : ss = sendS j) (hrs : rs = recvS c)
    {hsrc : src.view.WordExact} {hdst : dst.view.WordExact} {hsc : dst.view.ref.isScScratch = false}
    {hsem : DmaTarget.Typed (nD := nD) (τ := τ) .vmem (.dma rs) (.remote (dv : Thread nD τ) dst (.dma ss) hsc)} :
    iprop(known m ∗ owns (c : Thread nD τ) (sS j) fullShare (XB m c p) ∗ any p (gS c) ∗ ow c (n + 1) ∗ tk c (.send j) c ∗ tk p (.recv c) c)
      ⊢ iprop((iprop(crd c (.send j) ∗ ow c n) -∗ run (F := F) c (k ⟨⟩) Q)
        -∗ run c (.op (.enqueueDma src (.remote (dv : Thread nD τ) dst (.dma ss) hsc) (.dma rs) hsrc hdst hsem) k) Q) := by
  iintro ⟨#Hkn, Hs, Hd, Ho, Ht1, Ht2⟩ Hk
  ihave Hs := (squeeze_owns c (sS j) squeezes_S1x1024x1024_S1024x1024 shapeCasts_S1x1024x1024_S1024x1024 fullShare (XB m c p)) $$ Hs
  ihave Hd := (any_squeeze p (gS c) squeezes_S1x1024x1024_S1024x1024 shapeCasts_S1024x1024_S1x1024x1024) $$ Hd
  iapply (snd m c p (.send j) (.recv c) n hn (Finset.mem_singleton_self c) (by show c ∈ (if c = p then ∅ else {c}); rw [if_neg hcp]; exact Finset.mem_singleton_self c) rfl hdv
    hs hd (congrArg SemLoc.dma hss) (congrArg SemLoc.dma hrs) rfl (q := fullShare) (X := shapeCast S1024x1024 (XB m c p) shapeCasts_S1x1024x1024_S1024x1024)
    (by
      dsimp only [payN]
      iintro H
      iapply (squeeze_any c (sS j) squeezes_S1x1024x1024_S1024x1024 shapeCasts_S1024x1024_S1x1024x1024)
      iexists _; iexact H)
    (by
      dsimp only [payN]
      rw [owns_squeeze p (gS c) fullShare squeezes_S1x1024x1024_S1024x1024 shapeCasts_S1024x1024_S1x1024x1024, Idealize.ShloMosaic.shapeCast_shapeCast])) $$ [Hs Hd Ho Ht1 Ht2]
  · isplitr; · iexact Hkn
    isplitl [Hs]; · iexact Hs
    isplitl [Hd]; · iexact Hd
    isplitl [Ho]; · iexact Ho
    isplitl [Ht1]; · iexact Ht1
    iexact Ht2
  iexact Hk

variable (i : grid0.Coords) (c : Dev nD)

/-- The slots of device `p` that device `c` fills. -/
def slots (p c : Dev nD) : sProp 𝕄 := iprop(any p (gS c) ∗ any p (aS c))

theorem part1 {Q : BitVec 32 → sProp 𝕄} (v2 : BitVec 32) (h : k0_cond1 i = 1#1) :
    iprop(known m ∗ ow c 9 ∗ (tk (pr c 0) .bar c ∗ slots c (pr c 0)) ∗ (tk (pr c 1) .bar c ∗ slots c (pr c 1)) ∗ (tk (pr c 2) .bar c ∗ slots c (pr c 2))
        ∗ cred (tallyAt (kcell (c, .bar)) () 3) ∗ atp c .bar ∗ xidle m c 0 ∗ any c (bS 0))
      ⊢ iprop((∀ v, iprop(ow c 6 ∗ sv0 c .bar ∗ slots (pr c 0) c ∗ slots (pr c 1) c ∗ slots (pr c 2) c ∗ xfl m c 0 c) -∗ Q v)
        -∗ run (F := F) c (k0_part1 i xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11 c v2 h) Q) := by
  rw [k0_part1_eq_skeleton]; unfold k0_part1_skel
  simp only [semSignalWord, semWaitWord, Prog.lift, Prog.bind_op, Prog.bind_ret, Prog.pure_eq_ret]
  unfold slots
  iintro ⟨#Hkn, Ho, ⟨Ht0, Hg0, Ha0⟩, ⟨Ht1, Hg1, Ha1⟩, ⟨Ht2, Hg2, Ha2⟩, Hc, Hp, Hx, Hb⟩ Hk
  iapply (sig_step m c (pr c 0) 8 rfl (ne_pr c 0) (Fin.ext (k0_dev1_eq c)) rfl) $$ [Ho Ht0 Hg0 Ha0]
  · isplitr; · iexact Hkn
    isplitl [Ho]; · iexact Ho
    isplitl [Ht0]; · iexact Ht0
    isplitl [Hg0]; · iexact Hg0
    iexact Ha0
  iintro Ho
  iapply (sig_step m c (pr c 1) 7 rfl (ne_pr c 1) (Fin.ext (k0_dev2_eq c)) rfl) $$ [Ho Ht1 Hg1 Ha1]
  · isplitr; · iexact Hkn
    isplitl [Ho]; · iexact Ho
    isplitl [Ht1]; · iexact Ht1
    isplitl [Hg1]; · iexact Hg1
    iexact Ha1
  iintro Ho
  iapply (sig_step m c (pr c 2) 6 rfl (ne_pr c 2) (Fin.ext (k0_dev3_eq c)) rfl) $$ [Ho Ht2 Hg2 Ha2]
  · isplitr; · iexact Hkn
    isplitl [Ho]; · iexact Ho
    isplitl [Ht2]; · iexact Ht2
    isplitl [Hg2]; · iexact Hg2
    iexact Ha2
  iintro Ho
  iapply (pwait m c .bar 6 (k' := 3) (fun K => wpE_semWait_eq (defs := defs₀ (F := F)) 𝒱₀ (c : Thread nD τ) none Set.univ K) (by revert c; decide) (debt_lt_one c)) $$ [Ho Hc Hp]
  · isplitr; · iexact Hkn
    isplitl [Hc]; · iexact Hc
    isplitl [Ho]; · iexact Ho
    iexact Hp
  iintro ⟨Ho, Hv, Hpay⟩
  ihave Hpay := (show bigSep (dutiesN (c, .bar)) (payN m (c, .bar)) ⊢ _ from Entails.of_eq (others c (payN m (c, .bar)))) $$ Hpay
  dsimp only [payN]
  icases Hpay with ⟨H0, H1, H2⟩
  iapply (xcp m c 0 c (k0_off1_eq c) rfl rfl) $$ [Hx Hb]
  · isplitl [Hx]; · iexact Hx
    iexact Hb
  iintro Hf
  iapply (done c)
  iapply Hk
  isplitl [Ho]; · iexact Ho
  isplitl [Hv]; · iexact Hv
  isplitl [H0]; · iexact H0
  isplitl [H1]; · iexact H1
  isplitl [H2]; · iexact H2
  iexact Hf

/-- What a step of the opening leaves of the left operand: block `r` is in staging slot `j`. -/
def xgot (j : Fin 2) (r : Dev nD) : sProp 𝕄 := iprop(owns (c : Thread nD τ) (bS j) fullShare (up (xblk m c r)) ∗ xidle m c j)

theorem part2 {Q : (Σ' (v112 : BitVec 32), Vec F S1x1024x1024 .f32) → sProp 𝕄} (v2 : BitVec 32) (h : k0_cond1 i = 1#1) :
    iprop(known m ∗ ow c 6 ∗ xfl m c 0 c ∗ xidle m c 1 ∗ any c (bS 1) ∗ any c (gS c))
      ⊢ iprop((∀ v, iprop(ow c 6 ∗ xfl m c 0 (pr c 0) ∗ xgot m c 1 (pr c 2) ∗ owns (c : Thread nD τ) (gS c) fullShare (XB m c c)) -∗ Q ⟨v, up (xblk m c (pr c 2))⟩)
        -∗ run (F := F) c (k0_part2 i xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11 c v2 h) Q) := by
  rw [k0_part2_eq_skeleton]; unfold k0_part2_skel
  simp only [semSignalWord, semWaitWord, Prog.lift, Prog.bind_op, Prog.bind_ret, Prog.pure_eq_ret]
  unfold xgot
  iintro ⟨#Hkn, Ho, Hf, Hx, Hb, ⟨%G, Hg⟩⟩ Hk
  iapply (xcp m c 1 (pr c 2) (off2_three c) rfl rfl) $$ [Hx Hb]
  · isplitl [Hx]; · iexact Hx
    iexact Hb
  iintro Hf1
  iapply (xwt m c 0 c 6 rfl rfl) $$ [Hf Ho]
  · isplitr; · iexact Hkn
    isplitl [Hf]; · iexact Hf
    iexact Ho
  iintro ⟨Hb, Hx, Ho⟩
  iapply (ld c bM rfl (p' := inb_b 0)) $$ Hb
  iintro Hb
  iapply (ld c gM (k0_off3_eq c) (p' := inb_g c)) $$ Hg
  iintro Hg
  iapply (st c gM (k0_off3_eq c) (p' := inb_g c)) $$ [Hg]
  · iexists G; iexact Hg
  iintro Hg
  iapply (xcp m c 0 (pr c 0) (off2_one c) rfl rfl) $$ [Hx Hb]
  · isplitl [Hx]; · iexact Hx
    iexists _; iexact Hb
  iintro Hf
  iapply (xwt m c 1 (pr c 2) 6 rfl rfl) $$ [Hf1 Ho]
  · isplitr; · iexact Hkn
    isplitl [Hf1]; · iexact Hf1
    iexact Ho
  iintro ⟨Hb, Hx, Ho⟩
  iapply (ld c bM rfl (p' := inb_b 1)) $$ Hb
  iintro Hb
  iapply (done c)
  iapply Hk
  isplitl [Ho]; · iexact Ho
  isplitl [Hf]; · iexact Hf
  isplitl [Hb Hx]
  · isplitl [Hb]; · iexact Hb
    iexact Hx
  iexact Hg

theorem part3 {Q : Vec F S1x1024x1024 .f32 → sProp 𝕄} (v2 v92 : BitVec 32) (h : k0_cond1 i = 1#1) :
    iprop(known m ∗ ow c 6 ∗ xfl m c 0 (pr c 0) ∗ xgot m c 1 (pr c 2) ∗ any c (sS 0) ∗ any (pr c 2) (gS c) ∗ tk c (.send 0) c ∗ tk (pr c 2) (.recv c) c)
      ⊢ iprop((iprop(ow c 5 ∗ crd c (.send 0) ∗ xfl m c 1 (pr c 1) ∗ xgot m c 0 (pr c 0)) -∗ Q (up (xblk m c (pr c 0))))
        -∗ run (F := F) c (k0_part3 i xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11 c v2 h v92 (up (xblk m c (pr c 2)))) Q) := by
  rw [k0_part3_eq_skeleton]; unfold k0_part3_skel
  simp only [semSignalWord, semWaitWord, Prog.lift, Prog.bind_op, Prog.bind_ret, Prog.pure_eq_ret]
  unfold xgot
  iintro ⟨#Hkn, Ho, Hf, ⟨Hb, Hx⟩, ⟨%S, Hs⟩, Hg, Ht1, Ht2⟩ Hk
  iapply (ld c sM rfl (p' := inb_s 0)) $$ Hs
  iintro Hs
  iapply (st c sM rfl (p' := inb_s 0)) $$ [Hs]
  · iexists S; iexact Hs
  iintro Hs
  iapply (sndx m c (pr c 2) 0 5 rfl (ne_pr c 2) (Fin.ext (k0_dev4_eq c)) rfl (gQ_of (k0_off5_eq c)) rfl (recvS_of (k0_off4_eq c))) $$ [Ho Hs Hg Ht1 Ht2]
  · isplitr; · iexact Hkn
    isplitl [Hs]; · iexact Hs
    isplitl [Hg]; · iexact Hg
    isplitl [Ho]; · iexact Ho
    isplitl [Ht1]; · iexact Ht1
    iexact Ht2
  iintro ⟨Hc, Ho⟩
  iapply (xcp m c 1 (pr c 1) (off2_two c) rfl rfl) $$ [Hx Hb]
  · isplitl [Hx]; · iexact Hx
    iexists _; iexact Hb
  iintro Hf1
  iapply (xwt m c 0 (pr c 0) 5 rfl rfl) $$ [Hf Ho]
  · isplitr; · iexact Hkn
    isplitl [Hf]; · iexact Hf
    iexact Ho
  iintro ⟨Hb, Hx, Ho⟩
  iapply (ld c bM rfl (p' := inb_b 0)) $$ Hb
  iintro Hb
  iapply (done c)
  iapply Hk
  isplitl [Ho]; · iexact Ho
  isplitl [Hc]; · iexact Hc
  isplitl [Hf1]; · iexact Hf1
  isplitl [Hb]; · iexact Hb
  iexact Hx

theorem part4 {Q : (Σ' (v180 : BitVec 32) (v181 : BitVec 32), BitVec 1) → sProp 𝕄} (v112 : BitVec 32) (h : k0_cond1 i = 1#1) :
    iprop(known m ∗ ow c 5 ∗ xfl m c 1 (pr c 1) ∗ any c (sS 1) ∗ any c (sS 2) ∗ any (pr c 0) (gS c) ∗ tk c (.send 1) c ∗ tk (pr c 0) (.recv c) c)
      ⊢ iprop((∀ v, iprop(ow c 4 ∗ crd c (.send 1) ∗ xgot m c 1 (pr c 1) ∗ owns (c : Thread nD τ) (sS 2) fullShare (XB m c (pr c 1))) -∗ Q v)
        -∗ run (F := F) c (k0_part4 i xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11 c h v112 (up (xblk m c (pr c 0)))) Q) := by
  rw [k0_part4_eq_skeleton]; unfold k0_part4_skel
  simp only [semSignalWord, semWaitWord, Prog.lift, Prog.bind_op, Prog.bind_ret, Prog.pure_eq_ret]
  unfold xgot
  iintro ⟨#Hkn, Ho, Hf, ⟨%S, Hs⟩, ⟨%S2, Hs2⟩, Hg, Ht1, Ht2⟩ Hk
  iapply (ld c sM rfl (p' := inb_s 1)) $$ Hs
  iintro Hs
  iapply (st c sM rfl (p' := inb_s 1)) $$ [Hs]
  · iexists S; iexact Hs
  iintro Hs
  iapply (sndx m c (pr c 0) 1 4 rfl (ne_pr c 0) (Fin.ext (k0_dev5_eq c)) rfl (gQ_of (k0_off5_eq c)) rfl (recvS_of (k0_off4_eq c))) $$ [Ho Hs Hg Ht1 Ht2]
  · isplitr; · iexact Hkn
    isplitl [Hs]; · iexact Hs
    isplitl [Hg]; · iexact Hg
    isplitl [Ho]; · iexact Ho
    isplitl [Ht1]; · iexact Ht1
    iexact Ht2
  iintro ⟨Hc, Ho⟩
  iapply (xwt m c 1 (pr c 1) 4 rfl rfl) $$ [Hf Ho]
  · isplitr; · iexact Hkn
    isplitl [Hf]; · iexact Hf
    iexact Ho
  iintro ⟨Hb, Hx, Ho⟩
  iapply (ld c bM rfl (p' := inb_b 1)) $$ Hb
  iintro Hb
  iapply (ld c sM rfl (p' := inb_s 2)) $$ Hs2
  iintro Hs2
  iapply (st c sM rfl (p' := inb_s 2)) $$ [Hs2]
  · iexists S2; iexact Hs2
  iintro Hs2
  iapply (done c)
  iapply Hk
  isplitl [Ho]; · iexact Ho
  isplitl [Hc]; · iexact Hc
  isplitl [Hb Hx]
  · isplitl [Hb]; · iexact Hb
    iexact Hx
  iexact Hs2

theorem part5 {Q : PUnit → sProp 𝕄} (v2 v180 v181 : BitVec 32) (v182 : BitVec 1) (h : k0_cond1 i = 1#1) :
    iprop(widle m c 0 ∗ any c (bS 0))
      ⊢ iprop((wfl m c 0 (ksrc c (0 / 8)) (nF 0) -∗ Q ⟨⟩) -∗ run (F := F) c (k0_part5 i xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11 c v2 h v180 v181 v182) Q) := by
  rw [k0_part5_eq_skeleton]; unfold k0_part5_skel
  simp only [semSignalWord, semWaitWord, Prog.lift, Prog.bind_op, Prog.bind_ret, Prog.pure_eq_ret]
  iintro H Hk
  iapply (wcp m c 0 (ksrc c (0 / 8)) (nF 0) (off6_zero c) rfl rfl) $$ H
  iintro Hf
  iapply (done c)
  iapply Hk $$ Hf

end Cert.Run
-- ==== Proof.Middle.lean ====
/- What a device holds between two grid points, and the part of a point that starts copies and waits for rows. -/
module

public import proofs.«01_k».proof.Proof.Opening

@[expose] public section

set_option maxRecDepth 16384

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## What a device holds -/

/-- The staging slot of grid point `t`'s block of the right operand is free. -/
def wfr (t : ℕ) : sProp 𝕄 := iprop(widle m c (bF t) ∗ any c (bS (bF t)))
/-- That block is on its way. -/
def wgo (t : ℕ) : sProp 𝕄 := wfl m c (bF t) (ksrc c (t / 8)) (nF t)
def wnx (t : ℕ) : sProp 𝕄 := if t < 32 then wgo m c t else wfr m c t

theorem wfr_add_two (t : ℕ) : wfr m c (t + 2) = wfr m c t := by unfold wfr; rw [bF_add_two]

/-- The rows that stage `s` multiplies: still to come, or here. -/
def gpend (s : ℕ) : sProp 𝕄 := iprop(atp c (.recv (ksrc c s)) ∗ crd c (.recv (ksrc c s)))
def ghave (s : ℕ) : sProp 𝕄 := iprop(sv0 c (.recv (ksrc c s)) ∗ owns (c : Thread nD τ) (gS (ksrc c s)) fullShare (XB m (ksrc c s) c))
def gat (t s : ℕ) : sProp 𝕄 := if t ≤ 8 * s then gpend c s else ghave m c s
def gall (t : ℕ) : sProp 𝕄 :=
  iprop(owns (c : Thread nD τ) (gS c) fullShare (XB m c c) ∗ gat m c t 1 ∗ gat m c t 2 ∗ gat m c t 3)

theorem gat_keep {t s : ℕ} (h : t ≠ 8 * s) : gat m c (t + 1) s = gat m c t s := by
  unfold gat
  by_cases h1 : t ≤ 8 * s
  · rw [if_pos h1, if_pos (by omega)]
  · rw [if_neg h1, if_neg (by omega)]
theorem gat_pend {t s : ℕ} (h : t ≤ 8 * s) : gat m c t s = gpend c s := if_pos h
theorem gat_have {t s : ℕ} (h : 8 * s < t) : gat m c t s = ghave m c s := if_neg (Nat.not_le.mpr h)

/-- The device's own sends of rows: two under way and the third still to start, or the first two done. -/
def sndA : sProp 𝕄 :=
  iprop((crd c (.send 0) ∗ atp c (.send 0)) ∗ (crd c (.send 1) ∗ atp c (.send 1))
    ∗ owns (c : Thread nD τ) (sS 2) fullShare (XB m c (pr c 1)) ∗ any (pr c 1) (gS c) ∗ tk c (.send 2) c ∗ tk (pr c 1) (.recv c) c ∗ atp c (.send 2))
def sndB : sProp 𝕄 :=
  iprop((sv0 c (.send 0) ∗ any c (sS 0)) ∗ (sv0 c (.send 1) ∗ any c (sS 1)) ∗ crd c (.send 2) ∗ atp c (.send 2))
def snds (t : ℕ) : sProp 𝕄 := if t ≤ 8 then sndA m c else sndB c
/-- How many payments the device still owes once the opening is over. -/
def obM (t : ℕ) : ℕ := if t ≤ 8 then 4 else 3

/-- Column block `n` of the accumulator after `k` stages. -/
def ycol : ℕ → Fin 8 → sProp 𝕄
  | 0, n => any c (yC n)
  | k + 1, n => owns (c : Thread nD τ) (yC n) fullShare (acc m c k n)
def ycols (t : ℕ) : sProp 𝕄 := bigSep Finset.univ fun n : Fin 8 => ycol m c ((t + 7 - n.val) / 8) n

theorem ycols_at (t : ℕ) :
    ycols m c t ⊢ iprop(ycol m c (t / 8) (nF t) ∗ (ycol m c (t / 8 + 1) (nF t) -∗ ycols m c (t + 1))) := by
  unfold ycols
  rw [bigSep_univ_at _ (nF t), bigSep_univ_at (fun n : Fin 8 => ycol m c ((t + 1 + 7 - n.val) / 8) n) (nF t)]
  have h1 : (t + 7 - (nF t).val) / 8 = t / 8 := by show (t + 7 - t % 8) / 8 = t / 8; omega
  have h2 : (t + 1 + 7 - (nF t).val) / 8 = t / 8 + 1 := by show (t + 1 + 7 - t % 8) / 8 = t / 8 + 1; omega
  rw [h1, h2]
  have h3 : bigSep (Finset.univ.erase (nF t)) (fun n : Fin 8 => ycol m c ((t + 7 - n.val) / 8) n)
      = bigSep (Finset.univ.erase (nF t)) (fun n : Fin 8 => ycol m c ((t + 1 + 7 - n.val) / 8) n) :=
    bigSep_congr fun n hn => by
      have hne : n.val ≠ t % 8 := fun h => (Finset.mem_erase.mp hn).1 (Fin.ext h)
      rw [show (t + 7 - n.val) / 8 = (t + 1 + 7 - n.val) / 8 by have := n.isLt; omega]
  rw [h3]
  iintro ⟨H, Hr⟩
  isplitl [H]; · iexact H
  iintro H
  isplitl [H]; · iexact H
  iexact Hr

/-- The device's own block of maxima. -/
def aown (t : ℕ) : sProp 𝕄 := if t ≤ 24 then any c (aS c) else owns (c : Thread nD τ) (aS c) fullShare (amax m c (t - 25))

/-- Held from the opening on, for the end: the left operand, and the other devices' slots for the device's maximum. -/
def lateX : sProp 𝕄 :=
  iprop(xidle m c 0 ∗ xidle m c 1 ∗ sv0 c .bar ∗ any (pr c 0) (aS c) ∗ any (pr c 1) (aS c) ∗ any (pr c 2) (aS c))
/-- What the exchange of maxima with device `pr c j` takes. -/
def xch (j : Fin 3) : sProp 𝕄 :=
  iprop(tk c (.asend j) c ∗ tk (pr c j) (.arecv c) c ∗ atp c (.asend j) ∗ atp c (.arecv (pr c j)) ∗ crd c (.arecv (pr c j)))
def lateA : sProp 𝕄 :=
  iprop((bigSep Finset.univ fun n : Fin 8 => any c (oC n)) ∗ semVal ((c : Thread nD τ), .dma (ysem 0)) 0 ∗ semVal ((c : Thread nD τ), .dma (ysem 1)) 0
    ∗ xch c 0 ∗ xch c 1 ∗ xch c 2 ∗ sv0 c (.recv c) ∗ sv0 c (.arecv c))

/-- What the opening starts from. -/
def opn : sProp 𝕄 :=
  iprop(((tk (pr c 0) .bar c ∗ slots c (pr c 0)) ∗ (tk (pr c 1) .bar c ∗ slots c (pr c 1)) ∗ (tk (pr c 2) .bar c ∗ slots c (pr c 2))
      ∗ cred (tallyAt (kcell (c, .bar)) () 3) ∗ atp c .bar)
    ∗ (xidle m c 0 ∗ xidle m c 1 ∗ widle m c 0 ∗ widle m c 1 ∗ any c (bS 0) ∗ any c (bS 1) ∗ any c (gS c))
    ∗ (any c (sS 0) ∗ tk c (.send 0) c ∗ tk (pr c 2) (.recv c) c ∗ atp c (.send 0))
    ∗ (any c (sS 1) ∗ tk c (.send 1) c ∗ tk (pr c 0) (.recv c) c ∗ atp c (.send 1))
    ∗ (any c (sS 2) ∗ tk c (.send 2) c ∗ tk (pr c 1) (.recv c) c ∗ atp c (.send 2))
    ∗ (gpend c 1 ∗ gpend c 2 ∗ gpend c 3))

/-! ## Starting copies and waiting for rows -/

theorem seqU {p : Prog (TpuEff nD τ sig (Elt F) Λ₀ .tc) PUnit} {pre post : sProp 𝕄} {Q : PUnit → sProp 𝕄}
    (hp : pre ⊢ run (F := F) c p (fun _ => post)) : pre ⊢ iprop((post -∗ Q ⟨⟩) -∗ run (F := F) c p Q) := by
  iintro H Hk
  ihave H := hp $$ H
  iapply (wp_wand _ _ _) $$ H
  iintro %a H
  iapply Hk $$ H

abbrev R14 : Type := Σ' (arg0 : BitVec 32) (arg1 : BitVec 32) (d0 : Dev nD) (v2 : BitVec 32) (v4 : BitVec 32) (v25 : BitVec 32), BitVec 32

theorem open14 {Q : R14 → sProp 𝕄} (t : Fin cfg0.N) (ht : t.val = 0) :
    iprop(known m ∗ opn m c ∗ ow c 9)
      ⊢ iprop((∀ a0 a1 v2 v4 v25, iprop(gall m c 1 ∗ snds m c 1 ∗ wgo m c 0 ∗ wgo m c 1 ∗ lateX m c ∗ ow c 4) -∗ Q ⟨a0, a1, c, v2, v4, v25, 2#32⟩)
        -∗ run (F := F) c (k0_part14 (grid0.coords t) xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11) Q) := by
  rw [k0_part14_eq_skeleton]; unfold k0_part14_skel
  have h1 := (cond1_at t).mpr ht
  have h2 : ¬ k0_cond2 (grid0.coords t) = 1#1 := fun h => by have := (cond2_at t).mp h; omega
  have h3 : ¬ k0_cond3 (grid0.coords t) = 1#1 := fun h => by have := (cond3_at t).mp h; omega
  have h4 : ¬ k0_cond4 (grid0.coords t) = 1#1 := fun h => by have := (cond4_at t).mp h; omega
  simp only [Prog.lift, Prog.bind_op, Prog.bind_ret, Prog.pure_eq_ret, wp_deviceId, dif_pos h1, dif_neg h2, dif_neg h3, dif_neg h4, wp_bind]
  unfold opn
  iintro ⟨#Hkn, ⟨⟨Hp0, Hp1, Hp2, Hcb, Hab⟩, ⟨Hx0, Hx1, Hw0, Hw1, Hb0, Hb1, Hg⟩, ⟨Hs0, Hta0, Htb0, Hat0⟩, ⟨Hs1, Hta1, Htb1, Hat1⟩, ⟨Hs2, Hta2, Htb2, Hat2⟩, Hgp⟩, Ho⟩ Hk
  iapply (part1 m (grid0.coords t) c _ h1) $$ [Ho Hp0 Hp1 Hp2 Hcb Hab Hx0 Hb0]
  · isplitr; · iexact Hkn
    isplitl [Ho]; · iexact Ho
    isplitl [Hp0]; · iexact Hp0
    isplitl [Hp1]; · iexact Hp1
    isplitl [Hp2]; · iexact Hp2
    isplitl [Hcb]; · iexact Hcb
    isplitl [Hab]; · iexact Hab
    isplitl [Hx0]; · iexact Hx0
    iexact Hb0
  iintro %v92 ⟨Ho, Hvb, Hq0, Hq1, Hq2, Hf⟩
  unfold slots
  icases Hq0 with ⟨Hg0, Ha0⟩
  icases Hq1 with ⟨Hg1, Ha1⟩
  icases Hq2 with ⟨Hg2, Ha2⟩
  iapply (part2 m (grid0.coords t) c _ h1) $$ [Ho Hf Hx1 Hb1 Hg]
  · isplitr; · iexact Hkn
    isplitl [Ho]; · iexact Ho
    isplitl [Hf]; · iexact Hf
    isplitl [Hx1]; · iexact Hx1
    isplitl [Hb1]; · iexact Hb1
    iexact Hg
  iintro %v112 ⟨Ho, Hf, Hx1, Hg⟩
  dsimp only
  iapply (part3 m (grid0.coords t) c _ _ h1) $$ [Ho Hf Hx1 Hs0 Hg2 Hta0 Htb0]
  · isplitr; · iexact Hkn
    isplitl [Ho]; · iexact Ho
    isplitl [Hf]; · iexact Hf
    isplitl [Hx1]; · iexact Hx1
    isplitl [Hs0]; · iexact Hs0
    isplitl [Hg2]; · iexact Hg2
    isplitl [Hta0]; · iexact Hta0
    iexact Htb0
  iintro ⟨Ho, Hc0, Hf, Hx0⟩
  iapply (part4 m (grid0.coords t) c _ h1) $$ [Ho Hf Hs1 Hs2 Hg0 Hta1 Htb1]
  · isplitr; · iexact Hkn
    isplitl [Ho]; · iexact Ho
    isplitl [Hf]; · iexact Hf
    isplitl [Hs1]; · iexact Hs1
    isplitl [Hs2]; · iexact Hs2
    isplitl [Hg0]; · iexact Hg0
    isplitl [Hta1]; · iexact Hta1
    iexact Htb1
  iintro %v180 ⟨Ho, Hc1, Hx1, Hs2⟩
  unfold xgot
  icases Hx0 with ⟨Hb0, Hx0⟩
  icases Hx1 with ⟨Hb1, Hx1⟩
  iapply (part5 m (grid0.coords t) c _ _ _ _ h1) $$ [Hw0 Hb0]
  · isplitl [Hw0]; · iexact Hw0
    iexists _; iexact Hb0
  iintro Hf0
  iapply (wcp m c 1 (ksrc c (1 / 8)) (nF 1) (off6_one c) rfl rfl) $$ [Hw1 Hb1]
  · isplitl [Hw1]; · iexact Hw1
    iexists _; iexact Hb1
  iintro Hf1
  iapply (done c)
  iapply Hk
  rw [show snds m c 1 = sndA m c from rfl, show wgo m c 0 = wfl m c 0 (ksrc c (0 / 8)) (nF 0) from rfl, show wgo m c 1 = wfl m c 1 (ksrc c (1 / 8)) (nF 1) from rfl]
  unfold gall sndA lateX
  rw [gat_pend m c (t := 1) (s := 1) (by decide), gat_pend m c (t := 1) (s := 2) (by decide), gat_pend m c (t := 1) (s := 3) (by decide)]
  isplitl [Hg Hgp]
  · isplitl [Hg]; · iexact Hg
    iexact Hgp
  isplitl [Hc0 Hat0 Hc1 Hat1 Hs2 Hg1 Hta2 Htb2 Hat2]
  · isplitl [Hc0 Hat0]
    · isplitl [Hc0]; · iexact Hc0
      iexact Hat0
    isplitl [Hc1 Hat1]
    · isplitl [Hc1]; · iexact Hc1
      iexact Hat1
    isplitl [Hs2]; · iexact Hs2
    isplitl [Hg1]; · iexact Hg1
    isplitl [Hta2]; · iexact Hta2
    isplitl [Htb2]; · iexact Htb2
    iexact Hat2
  isplitl [Hf0]; · iexact Hf0
  isplitl [Hf1]; · iexact Hf1
  isplitl [Hx0 Hx1 Hvb Ha0 Ha1 Ha2]
  · isplitl [Hx0]; · iexact Hx0
    isplitl [Hx1]; · iexact Hx1
    isplitl [Hvb]; · iexact Hvb
    isplitl [Ha0]; · iexact Ha0
    isplitl [Ha1]; · iexact Ha1
    iexact Ha2
  iexact Ho

theorem ksrc_three_ne (c : Dev nD) : ksrc c 3 ≠ c := by revert c; decide

theorem NX_gof {off : Fin 3 → ℕ} {p : ∀ i, off i + S1x1024x1024.size i ≤ S4x1024x1024.size i} :
    ((gM.slice (Rect.unit (s := S4x1024x1024) off S1x1024x1024.size p) (fun _ => rfl)).squeeze S1024x1024 squeezes_S1x1024x1024_S1024x1024).view.dmaCredit = NX := rfl

theorem ksrc_ne {s : ℕ} (h : 0 < s) (c : Dev nD) : ksrc c s ≠ c := by
  match s, h with
  | 1, _ => rw [ksrc_one]; exact pr_ne c 0
  | 2, _ => rw [ksrc_two]; exact pr_ne c 2
  | s + 3, _ => exact fun h => ksrc_three_ne c h

theorem ksrc_duty {s : ℕ} (h : 0 < s) (c : Dev nD) : dutiesN (c, .recv (ksrc c s)) = {ksrc c s} := if_neg (ksrc_ne h c)

/-- The rows of one stage arrive. -/
theorem grecv {α : Type} {k : PUnit → Prog (TpuEff nD τ sig (Elt F) Λ₀ .tc) α} {Q : α → sProp 𝕄} (s : ℕ) (hs : 0 < s)
    {off : Fin 1 → ℕ} (ho : off = ![(ksrc c s).val]) {p : ∀ i, off i + S1.size i ≤ S4.size i}
    {src dst : Memref sig .tc .vmem S1024x1024 .bf16} (hN : dst.view.dmaCredit = NX) {hsrc : src.view.WordExact} {hdst : dst.view.WordExact} :
    iprop(known m ∗ gpend c s ∗ ow c 3)
      ⊢ iprop((iprop(ghave m c s ∗ ow c 3) -∗ run (F := F) c (k ⟨⟩) Q)
        -∗ run c (.op (.waitDma2 ((cc0_scratch9.slice (Rect.unit (s := S4) off S1.size p)).squeeze S_ squeezes_S1_S_).sem src dst hsrc hdst) k) Q) := by
  unfold gpend ghave
  iintro ⟨#Hkn, ⟨Hp, Hc⟩, Ho⟩ Hk
  iapply (dwait m c (.recv (ksrc c s)) (ksrc c s) 3 (ksrc_duty hs c) rfl (recvS_of ho) hN (debt_lt_two c)) $$ [Hc Ho Hp]
  · isplitr; · iexact Hkn
    isplitl [Hc]; · iexact Hc
    isplitl [Ho]; · iexact Ho
    iexact Hp
  iintro ⟨Ho, Hv, Hg⟩
  iapply Hk
  dsimp only [payN]
  isplitl [Hv Hg]
  · isplitl [Hv]; · iexact Hv
    iexact Hg
  iexact Ho

theorem gall_step {t s : ℕ} (hs : 0 < s) (hs3 : s ≤ 3) (ht : t = 8 * s) :
    gall m c t ⊢ iprop(gpend c s ∗ (ghave m c s -∗ gall m c (t + 1))) := by
  subst ht
  unfold gall
  obtain rfl | rfl | rfl : s = 1 ∨ s = 2 ∨ s = 3 := by omega
  · rw [gat_keep m c (s := 2) (by decide), gat_keep m c (s := 3) (by decide), gat_pend m c (s := 1) (le_refl _), gat_have m c (s := 1) (by decide)]
    iintro ⟨H0, H1, H2, H3⟩
    isplitl [H1]; · iexact H1
    iintro H1
    isplitl [H0]; · iexact H0
    isplitl [H1]; · iexact H1
    isplitl [H2]; · iexact H2
    iexact H3
  · rw [gat_keep m c (s := 1) (by decide), gat_keep m c (s := 3) (by decide), gat_pend m c (s := 2) (le_refl _), gat_have m c (s := 2) (by decide)]
    iintro ⟨H0, H1, H2, H3⟩
    isplitl [H2]; · iexact H2
    iintro H2
    isplitl [H0]; · iexact H0
    isplitl [H1]; · iexact H1
    isplitl [H2]; · iexact H2
    iexact H3
  · rw [gat_keep m c (s := 1) (by decide), gat_keep m c (s := 2) (by decide), gat_pend m c (s := 3) (le_refl _), gat_have m c (s := 3) (by decide)]
    iintro ⟨H0, H1, H2, H3⟩
    isplitl [H3]; · iexact H3
    iintro H3
    isplitl [H0]; · iexact H0
    isplitl [H1]; · iexact H1
    isplitl [H2]; · iexact H2
    iexact H3

theorem gall_keep {t : ℕ} (h : ¬ (0 < t / 8 ∧ t % 8 = 0)) (ht0 : 0 < t) : gall m c (t + 1) = gall m c t := by
  unfold gall
  rw [gat_keep m c (s := 1) (by omega), gat_keep m c (s := 2) (by omega), gat_keep m c (s := 3) (by omega)]

/-- The rows that grid point `t` multiplies are here. -/
theorem gall_get {t : ℕ} (ht : t < 32) :
    gall m c (t + 1) ⊢ iprop(owns (c : Thread nD τ) (gS (ksrc c (t / 8))) fullShare (XB m (ksrc c (t / 8)) c)
      ∗ (owns (c : Thread nD τ) (gS (ksrc c (t / 8))) fullShare (XB m (ksrc c (t / 8)) c) -∗ gall m c (t + 1))) := by
  unfold gall
  obtain h | h | h | h : t / 8 = 0 ∨ t / 8 = 1 ∨ t / 8 = 2 ∨ t / 8 = 3 := by omega
  · rw [h, ksrc_zero]
    iintro ⟨H0, H1, H2, H3⟩
    isplitl [H0]; · iexact H0
    iintro H0
    isplitl [H0]; · iexact H0
    isplitl [H1]; · iexact H1
    isplitl [H2]; · iexact H2
    iexact H3
  · rw [h, gat_have m c (s := 1) (by omega)]
    unfold ghave
    iintro ⟨H0, ⟨Hv, H1⟩, H2, H3⟩
    isplitl [H1]; · iexact H1
    iintro H1
    isplitl [H0]; · iexact H0
    isplitl [Hv H1]
    · isplitl [Hv]; · iexact Hv
      iexact H1
    isplitl [H2]; · iexact H2
    iexact H3
  · rw [h, gat_have m c (s := 2) (by omega)]
    unfold ghave
    iintro ⟨H0, H1, ⟨Hv, H2⟩, H3⟩
    isplitl [H2]; · iexact H2
    iintro H2
    isplitl [H0]; · iexact H0
    isplitl [H1]; · iexact H1
    isplitl [Hv H2]
    · isplitl [Hv]; · iexact Hv
      iexact H2
    iexact H3
  · rw [h, gat_have m c (s := 3) (by omega)]
    unfold ghave
    iintro ⟨H0, H1, H2, ⟨Hv, H3⟩⟩
    isplitl [H3]; · iexact H3
    iintro H3
    isplitl [H0]; · iexact H0
    isplitl [H1]; · iexact H1
    isplitl [H2]; · iexact H2
    isplitl [Hv]; · iexact Hv
    iexact H3

theorem ifU {α : Type} {Q : α → sProp 𝕄} {C : Prop} [Decidable C] {A : C → Prog (TpuEff nD τ sig (Elt F) Λ₀ .tc) α} {rest : Prog (TpuEff nD τ sig (Elt F) Λ₀ .tc) α}
    (pre post : sProp 𝕄) :
    iprop(⌜∀ h : C, (pre ⊢ iprop((post -∗ run (F := F) c rest Q) -∗ run (F := F) c (A h) Q) : Prop)⌝ ∗ ⌜¬ C → (pre ⊢ post)⌝ ∗ pre)
      ⊢ iprop((post -∗ run (F := F) c rest Q) -∗ run (F := F) c (if h : C then A h else rest) Q) := by
  iintro ⟨%hA, %hB, H⟩ Hk
  by_cases h : C
  · rw [dif_pos h]
    iapply (hA h) $$ H
    iexact Hk
  · rw [dif_neg h]
    iapply Hk
    iapply (hB h) $$ H

theorem next14 {Q : R14 → sProp 𝕄} (t : Fin cfg0.N) (ht : 0 < t.val) :
    iprop(known m ∗ gall m c t.val ∗ snds m c t.val ∗ wfr m c (t.val + 1) ∗ ow c (obM t.val))
      ⊢ iprop((∀ a0 a1 v2 v4 v25, iprop(gall m c (t.val + 1) ∗ snds m c (t.val + 1) ∗ wnx m c (t.val + 1) ∗ ow c (obM (t.val + 1))) -∗ Q ⟨a0, a1, c, v2, v4, v25, 2#32⟩)
        -∗ run (F := F) c (k0_part14 (grid0.coords t) xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11) Q) := by
  have hlt : t.val < 32 := lt_of_lt_of_eq t.isLt N_0
  rw [k0_part14_eq_skeleton]; unfold k0_part14_skel
  have h1 : ¬ k0_cond1 (grid0.coords t) = 1#1 := fun h => by have := (cond1_at t).mp h; omega
  simp only [Prog.lift, Prog.bind_op, Prog.bind_ret, Prog.pure_eq_ret, wp_deviceId, dif_neg h1]
  iintro ⟨#Hkn, Hg, Hs, Hw, Ho⟩ Hk
  iapply (ifU c (iprop(known m ∗ snds m c t.val ∗ ow c (obM t.val))) (iprop(snds m c (t.val + 1) ∗ ow c (obM (t.val + 1))))) $$ [Hs Ho]
  · isplitr
    · ipureintro; intro h2
      have ht8 := (cond2_at t).mp h2
      rw [ht8, show obM 8 = 4 from rfl, show obM (8 + 1) = 3 from rfl, show snds m c 8 = sndA m c from rfl, show snds m c (8 + 1) = sndB c from rfl]
      unfold sndA sndB
      iintro ⟨#Hkn, ⟨⟨Hc0, Hp0⟩, ⟨Hc1, Hp1⟩, Hs2, Hg, Ht1, Ht2, Hp2⟩, Ho⟩ Hk
      iapply (dwait m c (.send 0) c 4 rfl rfl rfl (NX_s 0) (fun i _ => debt_lt c i)) $$ [Hc0 Ho Hp0]
      · isplitr; · iexact Hkn
        isplitl [Hc0]; · iexact Hc0
        isplitl [Ho]; · iexact Ho
        iexact Hp0
      iintro ⟨Ho, Hv0, Hb0⟩
      iapply (dwait m c (.send 1) c 4 rfl rfl rfl (NX_s 1) (fun i _ => debt_lt c i)) $$ [Hc1 Ho Hp1]
      · isplitr; · iexact Hkn
        isplitl [Hc1]; · iexact Hc1
        isplitl [Ho]; · iexact Ho
        iexact Hp1
      iintro ⟨Ho, Hv1, Hb1⟩
      dsimp only [payN]
      iapply (sndx m c (pr c 1) 2 3 rfl (ne_pr c 1) (Fin.ext (k0_dev6_eq c)) rfl (gQ_of (k0_off7_eq c)) rfl (recvS_of (k0_off8_eq c))) $$ [Hs2 Hg Ho Ht1 Ht2]
      · isplitr; · iexact Hkn
        isplitl [Hs2]; · iexact Hs2
        isplitl [Hg]; · iexact Hg
        isplitl [Ho]; · iexact Ho
        isplitl [Ht1]; · iexact Ht1
        iexact Ht2
      iintro ⟨Hc2, Ho⟩
      iapply Hk
      isplitl [Hv0 Hb0 Hv1 Hb1 Hc2 Hp2]
      · isplitl [Hv0 Hb0]
        · isplitl [Hv0]; · iexact Hv0
          iexact Hb0
        isplitl [Hv1 Hb1]
        · isplitl [Hv1]; · iexact Hv1
          iexact Hb1
        isplitl [Hc2]; · iexact Hc2
        iexact Hp2
      iexact Ho
    isplitr
    · ipureintro; intro h2
      have : t.val ≠ 8 := fun h => h2 ((cond2_at t).mpr h)
      rw [show obM (t.val + 1) = obM t.val by unfold obM; by_cases h : t.val ≤ 8; · rw [if_pos h, if_pos (by omega)]
                                              · rw [if_neg h, if_neg (by omega)],
        show snds m c (t.val + 1) = snds m c t.val by unfold snds; by_cases h : t.val ≤ 8; · rw [if_pos h, if_pos (by omega)]
                                                      · rw [if_neg h, if_neg (by omega)]]
      iintro ⟨-, Hs, Ho⟩
      isplitl [Hs]; · iexact Hs
      iexact Ho
    isplitr; · iexact Hkn
    isplitl [Hs]; · iexact Hs
    iexact Ho
  iintro ⟨Hs, Ho⟩
  iapply (ifU c (wfr m c (t.val + 1)) (wnx m c (t.val + 1))) $$ [Hw]
  · isplitr
    · ipureintro; intro h3
      obtain ⟨-, h3b⟩ := (cond3_at t).mp h3
      rw [show wnx m c (t.val + 1) = wgo m c (t.val + 1) from if_pos (by omega)]
      unfold wfr wgo
      iintro ⟨Hw, Hb⟩ Hk
      iapply (wcp m c (bF (t.val + 1)) (ksrc c ((t.val + 1) / 8)) (nF (t.val + 1)) (off11_at t c h3b) (off10_at t) (off9_at t)) $$ [Hw Hb]
      · isplitl [Hw]; · iexact Hw
        iexact Hb
      iexact Hk
    isplitr
    · ipureintro; intro h3
      have : ¬ t.val < 31 := fun h => h3 ((cond3_at t).mpr ⟨ht, h⟩)
      rw [show wnx m c (t.val + 1) = wfr m c (t.val + 1) from if_neg (by omega)]
    iexact Hw
  iintro Hw
  iapply (ifU c (iprop(known m ∗ gall m c t.val ∗ ow c (obM (t.val + 1)))) (iprop(gall m c (t.val + 1) ∗ ow c (obM (t.val + 1))))) $$ [Hg Ho]
  · isplitr
    · ipureintro; intro h4
      obtain ⟨h4a, h4b⟩ := (cond4_at t).mp h4
      rw [show obM (t.val + 1) = 3 from if_neg (by omega)]
      iintro ⟨#Hkn, Hg, Ho⟩ Hk
      ihave Hg := (gall_step m c (t := t.val) (s := t.val / 8) h4a (by omega) (by omega)) $$ Hg
      icases Hg with ⟨Hp, Hback⟩
      iapply (grecv m c (t.val / 8) h4a (off12_at t c) NX_gof) $$ [Hp Ho]
      · isplitr; · iexact Hkn
        isplitl [Hp]; · iexact Hp
        iexact Ho
      iintro ⟨Hh, Ho⟩
      iapply Hk
      isplitl [Hh Hback]
      · iapply Hback $$ Hh
      iexact Ho
    isplitr
    · ipureintro; intro h4
      rw [gall_keep m c (t := t.val) (fun h => h4 ((cond4_at t).mpr h)) ht]
      iintro ⟨-, Hg, Ho⟩
      isplitl [Hg]; · iexact Hg
      iexact Ho
    isplitr; · iexact Hkn
    isplitl [Hg]; · iexact Hg
    iexact Ho
  iintro ⟨Hg, Ho⟩
  iapply (done c)
  iapply Hk
  isplitl [Hg]; · iexact Hg
  isplitl [Hs]; · iexact Hs
  isplitl [Hw]; · iexact Hw
  iexact Ho

end Cert.Run
-- ==== Proof.Pieces.lean ====
/- The buffers cut into their pieces and put together again. -/
module

public import proofs.«01_k».proof.Proof.Copies

@[expose] public section

set_option maxRecDepth 16384

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The pieces lie apart and cover -/

theorem sR_disj : ∀ t t' : Fin 3, t ≠ t' → Disjoint (sR t).set (sR t').set := fun t t' h =>
  Rect.unit_disjoint (0 : Fin 3) (by
    have h : t.val ≠ t'.val := fun e => h (Fin.ext e)
    show t.val + 1 ≤ t'.val ∨ t'.val + 1 ≤ t.val
    omega)

theorem sR_cov : (Finset.univ.biUnion fun t : Fin 3 => (sR t).set) = (Finset.univ : Finset S3x1024x1024.Idx) := by
  ext i
  simp only [Finset.mem_biUnion, Finset.mem_univ, true_and, iff_true]
  refine ⟨⟨(i 0).val, (i 0).isLt⟩, Rect.mem_set_unit.mpr fun a => ?_⟩
  have h := (i a).isLt
  fin_cases a
  · exact ⟨le_refl _, Nat.lt_succ_self _⟩
  · exact ⟨Nat.zero_le _, lt_of_lt_of_eq h (Nat.zero_add _).symm⟩
  · exact ⟨Nat.zero_le _, lt_of_lt_of_eq h (Nat.zero_add _).symm⟩

theorem gR_disj : ∀ t t' : Dev nD, t ≠ t' → Disjoint (gR t).set (gR t').set := fun t t' h =>
  Rect.unit_disjoint (0 : Fin 3) (by
    have h : t.val ≠ t'.val := fun e => h (Fin.ext e)
    show t.val + 1 ≤ t'.val ∨ t'.val + 1 ≤ t.val
    omega)

theorem gR_cov : (Finset.univ.biUnion fun t : Dev nD => (gR t).set) = (Finset.univ : Finset S4x1024x1024.Idx) := by
  ext i
  simp only [Finset.mem_biUnion, Finset.mem_univ, true_and, iff_true]
  refine ⟨⟨(i 0).val, (i 0).isLt⟩, Rect.mem_set_unit.mpr fun a => ?_⟩
  have h := (i a).isLt
  fin_cases a
  · exact ⟨le_refl _, Nat.lt_succ_self _⟩
  · exact ⟨Nat.zero_le _, lt_of_lt_of_eq h (Nat.zero_add _).symm⟩
  · exact ⟨Nat.zero_le _, lt_of_lt_of_eq h (Nat.zero_add _).symm⟩

theorem bR_disj : ∀ t t' : Fin 2, t ≠ t' → Disjoint (bR t).set (bR t').set := fun t t' h =>
  Rect.unit_disjoint (0 : Fin 3) (by
    have h : t.val ≠ t'.val := fun e => h (Fin.ext e)
    show t.val + 1 ≤ t'.val ∨ t'.val + 1 ≤ t.val
    omega)

theorem bR_cov : (Finset.univ.biUnion fun t : Fin 2 => (bR t).set) = (Finset.univ : Finset S2x1024x1024.Idx) := by
  ext i
  simp only [Finset.mem_biUnion, Finset.mem_univ, true_and, iff_true]
  refine ⟨⟨(i 0).val, (i 0).isLt⟩, Rect.mem_set_unit.mpr fun a => ?_⟩
  have h := (i a).isLt
  fin_cases a
  · exact ⟨le_refl _, Nat.lt_succ_self _⟩
  · exact ⟨Nat.zero_le _, lt_of_lt_of_eq h (Nat.zero_add _).symm⟩
  · exact ⟨Nat.zero_le _, lt_of_lt_of_eq h (Nat.zero_add _).symm⟩

theorem aR_disj : ∀ t t' : Dev nD, t ≠ t' → Disjoint (aR t).set (aR t').set := fun t t' h =>
  Rect.unit_disjoint (0 : Fin 3) (by
    have h : t.val ≠ t'.val := fun e => h (Fin.ext e)
    show t.val + 1 ≤ t'.val ∨ t'.val + 1 ≤ t.val
    omega)

theorem aR_cov : (Finset.univ.biUnion fun t : Dev nD => (aR t).set) = (Finset.univ : Finset S4x8x128.Idx) := by
  ext i
  simp only [Finset.mem_biUnion, Finset.mem_univ, true_and, iff_true]
  refine ⟨⟨(i 0).val, (i 0).isLt⟩, Rect.mem_set_unit.mpr fun a => ?_⟩
  have h := (i a).isLt
  fin_cases a
  · exact ⟨le_refl _, Nat.lt_succ_self _⟩
  · exact ⟨Nat.zero_le _, lt_of_lt_of_eq h (Nat.zero_add _).symm⟩
  · exact ⟨Nat.zero_le _, lt_of_lt_of_eq h (Nat.zero_add _).symm⟩

theorem yR_disj : ∀ t t' : Fin 8, t ≠ t' → Disjoint (yR t).set (yR t').set := fun t t' h =>
  Rect.unit_disjoint (1 : Fin 2) (by
    have h : t.val ≠ t'.val := fun e => h (Fin.ext e)
    show 1024 * t.val + 1024 ≤ 1024 * t'.val ∨ 1024 * t'.val + 1024 ≤ 1024 * t.val
    omega)

theorem yR_cov : (Finset.univ.biUnion fun t : Fin 8 => (yR t).set) = (Finset.univ : Finset S1024x8192.Idx) := by
  ext i
  simp only [Finset.mem_biUnion, Finset.mem_univ, true_and, iff_true]
  have h0 : (i 0).val < 1024 := (i 0).isLt
  have h1 : (i 1).val < 8192 := (i 1).isLt
  refine ⟨⟨(i 1).val / 1024, by omega⟩, Rect.mem_set_unit.mpr fun a => ?_⟩
  fin_cases a
  · show 0 ≤ (i 0).val ∧ (i 0).val < 0 + 1024
    omega
  · show 1024 * ((i 1).val / 1024) ≤ (i 1).val ∧ (i 1).val < 1024 * ((i 1).val / 1024) + 1024
    omega

/-! ## A buffer owned at anything -/

section Any

variable (c : Dev nD) {sp : Space} {s : Shape} {e : EltTy} (M : Memref sig .tc sp s e) {T : Type} [Fintype T] [DecidableEq T] (r : T → Rect s)
  (hr : ∀ t a, (r t).stride a = 1) (hd : ∀ t t', t ≠ t' → Disjoint (r t).set (r t').set)
  (hcov : (Finset.univ : Finset T).biUnion (fun t => (r t).set) = Finset.univ)

omit [Fintype T] [DecidableEq T] in
theorem mem_emb (r : Rect s) (j : r.shape.Idx) : r.emb j ∈ r.set := by
  rw [← Rect.map_emb_univ]; exact Finset.mem_map_of_mem _ (Finset.mem_univ j)

omit [Fintype T] [DecidableEq T] in
theorem any_of (X : s.Idx → Elt F e) : (owns (c : Thread nD τ) M fullShare X : sProp 𝕄) ⊢ any c M := by
  iintro H
  iexists X
  iexact H

include hd hcov in
theorem any_cut : (any c M : sProp 𝕄) ⊢ bigSep Finset.univ fun t => any c (M.slice (r t) (hr t)) := by
  iintro ⟨%X, H⟩
  ihave H := (owns_rects (c : Thread nD τ) M fullShare r hr hd hcov X) $$ H
  iapply (show (bigSep Finset.univ fun t => (owns (c : Thread nD τ) (M.slice (r t) (hr t)) fullShare (fun j => X ((r t).emb j)) : sProp 𝕄))
    ⊢ bigSep Finset.univ fun t => any c (M.slice (r t) (hr t)) from bigSep_mono fun t _ => any_of c (M.slice (r t) (hr t)) _)
  iexact H

include hd hcov in
theorem any_rects [∀ e, Nonempty (Elt F e)] : (bigSep Finset.univ fun t => (any c (M.slice (r t) (hr t)) : sProp 𝕄)) ⊢ any c M := by
  iintro H
  ihave H := (show (bigSep Finset.univ fun t => (any c (M.slice (r t) (hr t)) : sProp 𝕄))
    ⊢ iprop(∃ Y : (t : T) → (r t).shape.Idx → Elt F e, bigSep Finset.univ fun t => owns (c : Thread nD τ) (M.slice (r t) (hr t)) fullShare (Y t))
    from bigSep_exists_pi Finset.univ _) $$ H
  icases H with ⟨%Y, H⟩
  classical
  have hX : ∃ X : s.Idx → Elt F e, ∀ t j, X ((r t).emb j) = Y t j := by
    refine ⟨fun i => if h : ∃ p : (t : T) × (r t).shape.Idx, (r p.1).emb p.2 = i then Y h.choose.1 h.choose.2 else Classical.arbitrary _, fun t j => ?_⟩
    have h : ∃ p : (t : T) × (r t).shape.Idx, (r p.1).emb p.2 = (r t).emb j := ⟨⟨t, j⟩, rfl⟩
    show (if h : ∃ p : (t : T) × (r t).shape.Idx, (r p.1).emb p.2 = (r t).emb j then Y h.choose.1 h.choose.2 else Classical.arbitrary _) = Y t j
    rw [dif_pos h]
    have hc := h.choose_spec
    generalize h.choose = p at hc
    obtain ⟨t', j'⟩ := p
    have ht : t' = t := by
      by_contra hne
      have h1 : (r t').emb j' ∈ (r t').set := mem_emb _ _
      rw [hc] at h1
      exact Finset.disjoint_left.mp (hd t' t hne) h1 (mem_emb _ _)
    subst ht
    have := (r t').emb.injective hc
    subst this
    rfl
  obtain ⟨X, hX⟩ := hX
  have he : (bigSep Finset.univ fun t => (owns (c : Thread nD τ) (M.slice (r t) (hr t)) fullShare (Y t) : sProp 𝕄))
    = bigSep Finset.univ fun t => owns (c : Thread nD τ) (M.slice (r t) (hr t)) fullShare (fun j => X ((r t).emb j)) :=
      bigSep_congr fun t _ => by rw [show Y t = fun j => X ((r t).emb j) from funext fun j => (hX t j).symm]
  ihave H := (Entails.of_eq he) $$ H
  iexists X
  iapply (owns_of_rects (c : Thread nD τ) M fullShare r hr hd hcov X) $$ H

end Any

/-! ## The maxima and the result, put together -/

variable (m : (ℓ : Loc nD τ sig) → Buf (Elt F) ℓ) (c : Dev nD)

theorem GA_piece (k : Dev nD) : (fun j => GA m ((aR k).emb j)) = AG m k := by
  funext j
  unfold GA
  have e : ∀ (d : Dev nD) (g : S1x8x128.Idx), d = k → g = j → AG m d g = AG m k j := by rintro _ _ rfl rfl; rfl
  refine e _ _ (Fin.ext ?_) (funext fun a => ?_)
  · have h : (j 0).val < 1 := (j 0).isLt
    show k.val + 1 * (j 0).val = k.val
    omega
  · have h : (j 0).val < 1 := (j 0).isLt
    fin_cases a
    · exact Fin.ext (by show 0 = (j 0).val; omega)
    · exact Fin.ext (by show 0 + 1 * (j 1).val = (j 1).val; omega)
    · exact Fin.ext (by show 0 + 1 * (j 2).val = (j 2).val; omega)

theorem OUT_piece (n : Fin 8) : (fun j => OUT m c ((yR n).emb j)) = outc m c n := by
  funext j
  unfold OUT
  have e : ∀ (d : Fin 8) (g : S1024x1024.Idx), d = n → g = j → outc m c d g = outc m c n j := by rintro _ _ rfl rfl; rfl
  have h1 : (j 1).val < 1024 := (j 1).isLt
  refine e _ _ (Fin.ext ?_) (funext fun a => ?_)
  · show (1024 * n.val + 1 * (j 1).val) / 1024 = n.val
    omega
  · fin_cases a
    · exact Fin.ext (by show 0 + 1 * (j 0).val = (j 0).val; omega)
    · exact Fin.ext (by show (1024 * n.val + 1 * (j 1).val) % 1024 = (j 1).val; omega)

/-- All four slots together are the whole buffer of maxima. -/
theorem GA_join : (bigSep Finset.univ fun k : Dev nD => (owns (c : Thread nD τ) (aS k) fullShare (AG m k) : sProp 𝕄))
    ⊢ owns (c : Thread nD τ) aM fullShare (GA m) := by
  refine BIBase.Entails.trans (Entails.of_eq (bigSep_congr fun k _ => ?_)) (owns_of_rects (c : Thread nD τ) aM fullShare (fun t : Dev nD => aR t) (fun _ _ => rfl) aR_disj aR_cov (GA m))
  rw [GA_piece]

/-- All column blocks together are the device's rows of the result. -/
theorem OUT_join : (bigSep Finset.univ fun n : Fin 8 => (owns (c : Thread nD τ) (oC n) fullShare (outc m c n) : sProp 𝕄))
    ⊢ owns (c : Thread nD τ) oM fullShare (OUT m c) := by
  refine BIBase.Entails.trans (Entails.of_eq (bigSep_congr fun k _ => ?_)) (owns_of_rects (c : Thread nD τ) oM fullShare (fun t : Fin 8 => yR t) (fun _ _ => rfl) yR_disj yR_cov (OUT m c))
  rw [OUT_piece]

/-- The whole buffer of maxima, as the load of all of it names it. -/
abbrev aW : Memref sig .tc .vmem S4x8x128 .f32 :=
  aM.slice (Rect.unit (s := S4x8x128) ![0, 0, 0] S4x8x128.size inb_S4x8x128_S4x8x128_0_0_0) (fun _ => rfl)

theorem GA_whole : (owns (c : Thread nD τ) aM fullShare (GA m) : sProp 𝕄)
    ⊢ iprop(owns (c : Thread nD τ) aW fullShare (GA m) ∗ (owns (c : Thread nD τ) aW fullShare (GA m) -∗ owns (c : Thread nD τ) aM fullShare (GA m))) := by
  have e : (fun i => GA m ((Rect.unit (s := S4x8x128) ![0, 0, 0] S4x8x128.size inb_S4x8x128_S4x8x128_0_0_0).emb i)) = GA m := by
    funext i
    refine congrArg (GA m) (funext fun a => Fin.ext ?_)
    fin_cases a
    · show 0 + 1 * (i 0).val = (i 0).val; omega
    · show 0 + 1 * (i 1).val = (i 1).val; omega
    · show 0 + 1 * (i 2).val = (i 2).val; omega
  have ho := congrArg (owns (c : Thread nD τ) aW fullShare : _ → sProp 𝕄) e
  iintro H
  ihave H := (lend c aM fullShare (Rect.unit (s := S4x8x128) ![0, 0, 0] S4x8x128.size inb_S4x8x128_S4x8x128_0_0_0) (fun _ => rfl) (GA m)) $$ H
  icases H with ⟨H, Hk⟩
  isplitl [H]
  · iapply (Entails.of_eq ho) $$ H
  iintro H
  ihave H := (Entails.of_eq ho.symm) $$ H
  iapply (restore c aM fullShare (Rect.unit (s := S4x8x128) ![0, 0, 0] S4x8x128.size inb_S4x8x128_S4x8x128_0_0_0) (fun _ => rfl) (GA m))
  isplitl [H]; · iexact H
  iexact Hk

end Cert.Run
-- ==== Proof.Ending.lean ====
/- The end of the last grid point: the devices exchange their maxima, and each writes its quantised rows out. -/
module

public import proofs.«01_k».proof.Proof.Middle
public import proofs.«01_k».proof.Proof.Pieces

@[expose] public section

set_option maxRecDepth 16384

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The maxima -/

/-- A send of the device's maximum to device `p`. -/
theorem snda {α : Type} {k : PUnit → Prog (TpuEff nD τ sig (Elt F) Λ₀ .tc) α} {Q : α → sProp 𝕄} (p : Dev nD) (j : Fin 3) (n : ℕ)
    (hn : debtCell c n = (p, .arecv c)) (hcp : c ≠ p) {dv : Dev nD} (hdv : dv = p)
    {src dst : Memref sig .tc .vmem S8x128 .f32} {ss rs : DmaSem sig} (hs : src = aQ c) (hd : dst = aQ c) (hss : ss = asendS j) (hrs : rs = arecvS c)
    {hsrc : src.view.WordExact} {hdst : dst.view.WordExact} {hsc : dst.view.ref.isScScratch = false}
    {hsem : DmaTarget.Typed (nD := nD) (τ := τ) .vmem (.dma rs) (.remote (dv : Thread nD τ) dst (.dma ss) hsc)} :
    iprop(known m ∗ owns (c : Thread nD τ) (aS c) (ash j) (AG m c) ∗ any p (aS c) ∗ ow c (n + 1) ∗ tk c (.asend j) c ∗ tk p (.arecv c) c)
      ⊢ iprop((iprop(crd c (.asend j) ∗ ow c n) -∗ run (F := F) c (k ⟨⟩) Q)
        -∗ run c (.op (.enqueueDma src (.remote (dv : Thread nD τ) dst (.dma ss) hsc) (.dma rs) hsrc hdst hsem) k) Q) := by
  iintro ⟨#Hkn, Hs, Hd, Ho, Ht1, Ht2⟩ Hk
  ihave Hs := (squeeze_owns c (aS c) squeezes_S1x8x128_S8x128 shapeCasts_S1x8x128_S8x128 (ash j) (AG m c)) $$ Hs
  ihave Hd := (any_squeeze p (aS c) squeezes_S1x8x128_S8x128 shapeCasts_S8x128_S1x8x128) $$ Hd
  iapply (snd m c p (.asend j) (.arecv c) n hn (Finset.mem_singleton_self c) (by show c ∈ (if c = p then ∅ else {c}); rw [if_neg hcp]; exact Finset.mem_singleton_self c) rfl hdv
    hs hd (congrArg SemLoc.dma hss) (congrArg SemLoc.dma hrs) rfl (q := ash j) (X := shapeCast S8x128 (AG m c) shapeCasts_S1x8x128_S8x128)
    (by
      dsimp only [payN]
      rw [owns_squeeze c (aS c) (ash j) squeezes_S1x8x128_S8x128 shapeCasts_S8x128_S1x8x128, Idealize.ShloMosaic.shapeCast_shapeCast])
    (by
      dsimp only [payN]
      rw [owns_squeeze p (aS c) fullShare squeezes_S1x8x128_S8x128 shapeCasts_S8x128_S1x8x128, Idealize.ShloMosaic.shapeCast_shapeCast])) $$ [Hs Hd Ho Ht1 Ht2]
  · isplitr; · iexact Hkn
    isplitl [Hs]; · iexact Hs
    isplitl [Hd]; · iexact Hd
    isplitl [Ho]; · iexact Ho
    isplitl [Ht1]; · iexact Ht1
    iexact Ht2
  iexact Hk

theorem arecv_duty {k : Dev nD} (h : k ≠ c) : dutiesN (c, .arecv k) = {k} := if_neg h

/-- A wait for the maximum of device `p`. -/
theorem arcv {α : Type} {k : PUnit → Prog (TpuEff nD τ sig (Elt F) Λ₀ .tc) α} {Q : α → sProp 𝕄} (p : Dev nD) (hp : p ≠ c)
    {sm : DmaSem sig} (hm : sm = arecvS p) {src dst : Memref sig .tc .vmem S8x128 .f32} (hN : dst.view.dmaCredit = NA)
    {hsrc : src.view.WordExact} {hdst : dst.view.WordExact} :
    iprop(known m ∗ crd c (.arecv p) ∗ ow c 0 ∗ atp c (.arecv p))
      ⊢ iprop((iprop(ow c 0 ∗ sv0 c (.arecv p) ∗ owns (c : Thread nD τ) (aS p) fullShare (AG m p)) -∗ run (F := F) c (k ⟨⟩) Q)
        -∗ run c (.op (.waitDma2 sm src dst hsrc hdst) k) Q) :=
  dwait m c (.arecv p) p 0 (arecv_duty c hp) rfl hm hN (fun i h => absurd h (Nat.not_lt_zero i))

/-- A wait for a send of the device's maximum. -/
theorem asnt {α : Type} {k : PUnit → Prog (TpuEff nD τ sig (Elt F) Λ₀ .tc) α} {Q : α → sProp 𝕄} (j : Fin 3)
    {sm : DmaSem sig} (hm : sm = asendS j) {src dst : Memref sig .tc .vmem S8x128 .f32} (hN : dst.view.dmaCredit = NA)
    {hsrc : src.view.WordExact} {hdst : dst.view.WordExact} :
    iprop(known m ∗ crd c (.asend j) ∗ ow c 0 ∗ atp c (.asend j))
      ⊢ iprop((iprop(ow c 0 ∗ sv0 c (.asend j) ∗ owns (c : Thread nD τ) (aS c) (ash j) (AG m c)) -∗ run (F := F) c (k ⟨⟩) Q)
        -∗ run c (.op (.waitDma2 sm src dst hsrc hdst) k) Q) :=
  dwait m c (.asend j) c 0 rfl rfl hm hN (fun i h => absurd h (Nat.not_lt_zero i))

theorem NA_aof {off : Fin 3 → ℕ} {p : ∀ i, off i + S1x8x128.size i ≤ S4x8x128.size i} :
    ((aM.slice (Rect.unit (s := S4x8x128) off S1x8x128.size p) (fun _ => rfl)).squeeze S8x128 squeezes_S1x8x128_S8x128).view.dmaCredit = NA := rfl

variable (i : grid0.Coords)

theorem part6 {Q : PUnit → sProp 𝕄} (v2 : BitVec 32) (h : k0_cond10 i = 1#1) :
    iprop(known m ∗ crd c (.send 2) ∗ atp c (.send 2) ∗ ow c 3 ∗ owns (c : Thread nD τ) (aS c) (ash 0) (AG m c) ∗ any (pr c 0) (aS c)
        ∗ tk c (.asend 0) c ∗ tk (pr c 0) (.arecv c) c)
      ⊢ iprop((iprop(ow c 2 ∗ sv0 c (.send 2) ∗ any c (sS 2) ∗ crd c (.asend 0)) -∗ Q ⟨⟩)
        -∗ run (F := F) c (k0_part6 i xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11 c v2 h) Q) := by
  rw [k0_part6_eq_skeleton]; unfold k0_part6_skel
  simp only [Prog.lift, Prog.bind_op, Prog.bind_ret, Prog.pure_eq_ret]
  iintro ⟨#Hkn, Hc, Hp, Ho, Hg, Ha, Ht1, Ht2⟩ Hk
  iapply (dwait m c (.send 2) c 3 rfl rfl rfl (NX_s 2) (fun i _ => debt_lt c i)) $$ [Hc Ho Hp]
  · isplitr; · iexact Hkn
    isplitl [Hc]; · iexact Hc
    isplitl [Ho]; · iexact Ho
    iexact Hp
  iintro ⟨Ho, Hv, Hs⟩
  dsimp only [payN]
  iapply (snda m c (pr c 0) 0 2 rfl (ne_pr c 0) (Fin.ext (k0_dev7_eq c)) (aQ_of (k0_off26_eq c)) (aQ_of (k0_off26_eq c)) rfl (arecvS_of (k0_off25_eq c))) $$ [Hg Ha Ho Ht1 Ht2]
  · isplitr; · iexact Hkn
    isplitl [Hg]; · iexact Hg
    isplitl [Ha]; · iexact Ha
    isplitl [Ho]; · iexact Ho
    isplitl [Ht1]; · iexact Ht1
    iexact Ht2
  iintro ⟨Hc, Ho⟩
  iapply (done c)
  iapply Hk
  isplitl [Ho]; · iexact Ho
  isplitl [Hv]; · iexact Hv
  isplitl [Hs]; · iexact Hs
  iexact Hc

theorem part7 {Q : PUnit → sProp 𝕄} (v2 : BitVec 32) (h : k0_cond10 i = 1#1) :
    iprop(known m ∗ ow c 2 ∗ (owns (c : Thread nD τ) (aS c) (ash 1) (AG m c) ∗ any (pr c 1) (aS c) ∗ tk c (.asend 1) c ∗ tk (pr c 1) (.arecv c) c)
        ∗ (owns (c : Thread nD τ) (aS c) (ash 2) (AG m c) ∗ any (pr c 2) (aS c) ∗ tk c (.asend 2) c ∗ tk (pr c 2) (.arecv c) c)
        ∗ crd c (.arecv (pr c 0)) ∗ atp c (.arecv (pr c 0)))
      ⊢ iprop((iprop(ow c 0 ∗ crd c (.asend 1) ∗ crd c (.asend 2) ∗ sv0 c (.arecv (pr c 0)) ∗ owns (c : Thread nD τ) (aS (pr c 0)) fullShare (AG m (pr c 0))) -∗ Q ⟨⟩)
        -∗ run (F := F) c (k0_part7 i xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11 c v2 h) Q) := by
  rw [k0_part7_eq_skeleton]; unfold k0_part7_skel
  simp only [Prog.lift, Prog.bind_op, Prog.bind_ret, Prog.pure_eq_ret]
  iintro ⟨#Hkn, Ho, ⟨Hg1, Ha1, Ht1, Hu1⟩, ⟨Hg2, Ha2, Ht2, Hu2⟩, Hc0, Hp0⟩ Hk
  iapply (snda m c (pr c 1) 1 1 rfl (ne_pr c 1) (Fin.ext (k0_dev8_eq c)) (aQ_of (k0_off26_eq c)) (aQ_of (k0_off26_eq c)) rfl (arecvS_of (k0_off25_eq c))) $$ [Hg1 Ha1 Ho Ht1 Hu1]
  · isplitr; · iexact Hkn
    isplitl [Hg1]; · iexact Hg1
    isplitl [Ha1]; · iexact Ha1
    isplitl [Ho]; · iexact Ho
    isplitl [Ht1]; · iexact Ht1
    iexact Hu1
  iintro ⟨Hc1, Ho⟩
  iapply (snda m c (pr c 2) 2 0 rfl (ne_pr c 2) (Fin.ext (k0_dev9_eq c)) (aQ_of (k0_off26_eq c)) (aQ_of (k0_off26_eq c)) rfl (arecvS_of (k0_off25_eq c))) $$ [Hg2 Ha2 Ho Ht2 Hu2]
  · isplitr; · iexact Hkn
    isplitl [Hg2]; · iexact Hg2
    isplitl [Ha2]; · iexact Ha2
    isplitl [Ho]; · iexact Ho
    isplitl [Ht2]; · iexact Ht2
    iexact Hu2
  iintro ⟨Hc2, Ho⟩
  iapply (arcv m c (pr c 0) (pr_ne c 0) (arecvS_of (off27_one c)) NA_aof) $$ [Hc0 Ho Hp0]
  · isplitr; · iexact Hkn
    isplitl [Hc0]; · iexact Hc0
    isplitl [Ho]; · iexact Ho
    iexact Hp0
  iintro ⟨Ho, Hv, Hr⟩
  iapply (done c)
  iapply Hk
  isplitl [Ho]; · iexact Ho
  isplitl [Hc1]; · iexact Hc1
  isplitl [Hc2]; · iexact Hc2
  isplitl [Hv]; · iexact Hv
  iexact Hr

theorem part8 {Q : BitVec 32 → sProp 𝕄} (v2 : BitVec 32) (h : k0_cond10 i = 1#1) :
    iprop(known m ∗ ow c 0 ∗ (crd c (.arecv (pr c 1)) ∗ atp c (.arecv (pr c 1))) ∗ (crd c (.arecv (pr c 2)) ∗ atp c (.arecv (pr c 2)))
        ∗ (crd c (.asend 0) ∗ atp c (.asend 0)) ∗ (crd c (.asend 1) ∗ atp c (.asend 1)))
      ⊢ iprop((∀ v, iprop(ow c 0 ∗ (sv0 c (.arecv (pr c 1)) ∗ owns (c : Thread nD τ) (aS (pr c 1)) fullShare (AG m (pr c 1)))
          ∗ (sv0 c (.arecv (pr c 2)) ∗ owns (c : Thread nD τ) (aS (pr c 2)) fullShare (AG m (pr c 2)))
          ∗ (sv0 c (.asend 0) ∗ owns (c : Thread nD τ) (aS c) (ash 0) (AG m c)) ∗ (sv0 c (.asend 1) ∗ owns (c : Thread nD τ) (aS c) (ash 1) (AG m c))) -∗ Q v)
        -∗ run (F := F) c (k0_part8 i xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11 c v2 h) Q) := by
  rw [k0_part8_eq_skeleton]; unfold k0_part8_skel
  simp only [Prog.lift, Prog.bind_op, Prog.bind_ret, Prog.pure_eq_ret]
  iintro ⟨#Hkn, Ho, ⟨Hc1, Hp1⟩, ⟨Hc2, Hp2⟩, ⟨Hc3, Hp3⟩, ⟨Hc4, Hp4⟩⟩ Hk
  iapply (arcv m c (pr c 1) (pr_ne c 1) (arecvS_of (off27_two c)) NA_aof) $$ [Hc1 Ho Hp1]
  · isplitr; · iexact Hkn
    isplitl [Hc1]; · iexact Hc1
    isplitl [Ho]; · iexact Ho
    iexact Hp1
  iintro ⟨Ho, Hv1, Hr1⟩
  iapply (arcv m c (pr c 2) (pr_ne c 2) (arecvS_of (off27_three c)) NA_aof) $$ [Hc2 Ho Hp2]
  · isplitr; · iexact Hkn
    isplitl [Hc2]; · iexact Hc2
    isplitl [Ho]; · iexact Ho
    iexact Hp2
  iintro ⟨Ho, Hv2, Hr2⟩
  iapply (asnt m c 0 rfl NA_aof) $$ [Hc3 Ho Hp3]
  · isplitr; · iexact Hkn
    isplitl [Hc3]; · iexact Hc3
    isplitl [Ho]; · iexact Ho
    iexact Hp3
  iintro ⟨Ho, Hv3, Hr3⟩
  iapply (asnt m c 1 rfl NA_aof) $$ [Hc4 Ho Hp4]
  · isplitr; · iexact Hkn
    isplitl [Hc4]; · iexact Hc4
    isplitl [Ho]; · iexact Ho
    iexact Hp4
  iintro ⟨Ho, Hv4, Hr4⟩
  iapply (done c)
  iapply Hk
  isplitl [Ho]; · iexact Ho
  isplitl [Hv1 Hr1]
  · isplitl [Hv1]; · iexact Hv1
    iexact Hr1
  isplitl [Hv2 Hr2]
  · isplitl [Hv2]; · iexact Hv2
    iexact Hr2
  isplitl [Hv3 Hr3]
  · isplitl [Hv3]; · iexact Hv3
    iexact Hr3
  isplitl [Hv4]; · iexact Hv4
  iexact Hr4

/-! ## The maxima together -/

theorem owns_share {sp : Space} {s : Shape} {e : EltTy} (M : Memref sig .tc sp s e) (q : PosShare TreeShare) (X : s.Idx → Elt F e) :
    (owns (c : Thread nD τ) M q X : sProp 𝕄) ⊢ iprop(owns (c : Thread nD τ) M q.left X ∗ owns (c : Thread nD τ) M q.right X) := by
  rw [owns_def]
  iintro ⟨%f, %hf, H⟩
  ihave H := (pointsTo_share (PosShare.mem_left_op_right q)).1 $$ H
  icases H with ⟨H1, H2⟩
  isplitl [H1]
  · iapply (owns_of c M _ hf); iexact H1
  iapply (owns_of c M _ hf); iexact H2

theorem owns_unshare {sp : Space} {s : Shape} {e : EltTy} (M : Memref sig .tc sp s e) (q : PosShare TreeShare) (X : s.Idx → Elt F e) :
    iprop(owns (c : Thread nD τ) M q.left X ∗ owns (c : Thread nD τ) M q.right X) ⊢ (owns (c : Thread nD τ) M q X : sProp 𝕄) := by
  rw [owns_def, owns_def]
  iintro ⟨⟨%f, %hf, H1⟩, ⟨%g, %hg, H2⟩⟩
  have e : (M.view.loc (c : Thread nD τ) ↦[M.view.set]{q.right} g : sProp 𝕄) = (M.view.loc (c : Thread nD τ) ↦[M.view.set]{q.right} f) :=
    pointsTo_congr (fun i hi => by
      obtain ⟨x, -, rfl⟩ := Finset.mem_map.mp hi
      have := congrFun (hg.trans hf.symm) x
      simpa [View.read_apply] using this)
  ihave H2 := (Entails.of_eq e) $$ H2
  iapply (owns_of c M _ hf)
  iapply (pointsTo_share (PosShare.mem_left_op_right q)).2
  isplitl [H1]; · iexact H1
  iexact H2

theorem ash_split : (owns (c : Thread nD τ) (aS c) fullShare (AG m c) : sProp 𝕄)
    ⊢ iprop(owns (c : Thread nD τ) (aS c) (ash 0) (AG m c) ∗ owns (c : Thread nD τ) (aS c) (ash 1) (AG m c) ∗ owns (c : Thread nD τ) (aS c) (ash 2) (AG m c)) := by
  iintro H
  ihave H := (owns_share c (aS c) fullShare (AG m c)) $$ H
  icases H with ⟨H0, H⟩
  ihave H := (owns_share c (aS c) fullShare.right (AG m c)) $$ H
  icases H with ⟨H1, H2⟩
  isplitl [H0]; · iexact H0
  isplitl [H1]; · iexact H1
  iexact H2

theorem ash_join : iprop(owns (c : Thread nD τ) (aS c) (ash 0) (AG m c) ∗ owns (c : Thread nD τ) (aS c) (ash 1) (AG m c) ∗ owns (c : Thread nD τ) (aS c) (ash 2) (AG m c))
    ⊢ (owns (c : Thread nD τ) (aS c) fullShare (AG m c) : sProp 𝕄) := by
  iintro ⟨H0, H1, H2⟩
  iapply (owns_unshare c (aS c) fullShare (AG m c))
  isplitl [H0]; · iexact H0
  iapply (owns_unshare c (aS c) fullShare.right (AG m c))
  isplitl [H1]; · iexact H1
  iexact H2

/-- All slots for the maxima, once every device's is in, are the whole buffer. -/
theorem GA_slots : iprop(owns (c : Thread nD τ) (aS c) fullShare (AG m c) ∗ owns (c : Thread nD τ) (aS (pr c 0)) fullShare (AG m (pr c 0))
      ∗ owns (c : Thread nD τ) (aS (pr c 1)) fullShare (AG m (pr c 1)) ∗ owns (c : Thread nD τ) (aS (pr c 2)) fullShare (AG m (pr c 2)))
    ⊢ (owns (c : Thread nD τ) aM fullShare (GA m) : sProp 𝕄) := by
  iintro H
  iapply (GA_join m c)
  iapply (Entails.of_eq (all_devs c (fun k => (owns (c : Thread nD τ) (aS k) fullShare (AG m k) : sProp 𝕄))).symm) $$ H

/-! ## The columns -/

/-- Column block `n` of the device's rows: summed; quantised; on its way out; written out. -/
abbrev yacc (n : Fin 8) : sProp 𝕄 := owns (c : Thread nD τ) (yC n) fullShare (acc m c 3 n)
abbrev yout (n : Fin 8) : sProp 𝕄 := owns (c : Thread nD τ) (yC n) fullShare (outc m c n)
abbrev yfl (j : Fin 2) (n : Fin 8) : sProp 𝕄 := fl c (ysem j) (oC n) (yC n) fullShare (outc m c n)
abbrev ydone (n : Fin 8) : sProp 𝕄 := iprop(owns (c : Thread nD τ) (oC n) fullShare (outc m c n) ∗ yout m c n)
abbrev ysv (j : Fin 2) : sProp 𝕄 := semVal ((c : Thread nD τ), .dma (ysem j)) 0

theorem numel_pos : 0 < S1024x1024.numel := by decide

theorem part9 {Q : (Σ' (v175 : F .f32) (v176 : F .f32), FVec F S1024x1024 .f32) → sProp 𝕄} (v162 : BitVec 32) (h : k0_cond10 i = 1#1) :
    iprop(known m ∗ ow c 0 ∗ (crd c (.asend 2) ∗ atp c (.asend 2))
        ∗ (owns (c : Thread nD τ) (aS c) (ash 0) (AG m c) ∗ owns (c : Thread nD τ) (aS c) (ash 1) (AG m c)
          ∗ owns (c : Thread nD τ) (aS (pr c 0)) fullShare (AG m (pr c 0)) ∗ owns (c : Thread nD τ) (aS (pr c 1)) fullShare (AG m (pr c 1))
          ∗ owns (c : Thread nD τ) (aS (pr c 2)) fullShare (AG m (pr c 2)))
        ∗ yacc m c 0 ∗ any c (oC 0) ∗ ysv c 0 ∗ yacc m c 1)
      ⊢ iprop((iprop(ow c 0 ∗ sv0 c (.asend 2) ∗ owns (c : Thread nD τ) aM fullShare (GA m) ∗ yfl m c 0 0 ∗ yacc m c 1)
          -∗ Q ⟨k0_pay12 (GA m), k0_pay13 (GA m), k0_pay15 (GA m) (acc m c 3 1)⟩)
        -∗ run (F := F) c (k0_part9 i xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11 c h v162) Q) := by
  rw [k0_part9_eq_skeleton]; unfold k0_part9_skel
  simp only [Prog.lift, Prog.bind_op, Prog.bind_ret, Prog.pure_eq_ret]
  iintro ⟨#Hkn, Ho, ⟨Hc, Hp⟩, ⟨Hs0, Hs1, Hr0, Hr1, Hr2⟩, Hy0, Hd0, Hv0, Hy1⟩ Hk
  iapply (asnt m c 2 rfl NA_aof) $$ [Hc Ho Hp]
  · isplitr; · iexact Hkn
    isplitl [Hc]; · iexact Hc
    isplitl [Ho]; · iexact Ho
    iexact Hp
  iintro ⟨Ho, Hv, Hs2⟩
  ihave Hs := (ash_join m c) $$ [Hs0 Hs1 Hs2]
  · isplitl [Hs0]; · iexact Hs0
    isplitl [Hs1]; · iexact Hs1
    iexact Hs2
  ihave Hg := (GA_slots m c) $$ [Hs Hr0 Hr1 Hr2]
  · isplitl [Hs]; · iexact Hs
    isplitl [Hr0]; · iexact Hr0
    isplitl [Hr1]; · iexact Hr1
    iexact Hr2
  ihave Hg := (GA_whole m c) $$ Hg
  icases Hg with ⟨Hg, Hback⟩
  iapply (ld c aM rfl (p' := inb_S4x8x128_S4x8x128_0_0_0)) $$ Hg
  iintro Hg
  ihave Hg := Hback $$ Hg
  iapply (ld c yM rfl (p' := inb_y 0)) $$ Hy0
  iintro Hy0
  iapply (ld c yM rfl (p' := inb_y 0)) $$ Hy0
  iintro Hy0
  iapply (st c yM rfl (p' := inb_y 0)) $$ [Hy0]
  · iexists _; iexact Hy0
  iintro Hy0
  ihave Hy0 := (Entails.of_eq (congrArg (owns (c : Thread nD τ) (yC 0) fullShare : _ → sProp 𝕄) (show k0_pay14 (GA m) (acc m c 3 0) = outc m c 0 from rfl))) $$ Hy0
  iapply (cp c (src' := yC 0) (dst' := oC 0) (sm' := ysem 0) rfl rfl rfl numel_pos (X := outc m c 0) (q := fullShare)) $$ [Hy0 Hd0 Hv0]
  · isplitl [Hy0]; · iexact Hy0
    isplitl [Hd0]; · iexact Hd0
    iexact Hv0
  iintro Hf0
  iapply (ld c yM rfl (p' := inb_y 1)) $$ Hy1
  iintro Hy1
  iapply (done c)
  iapply Hk
  isplitl [Ho]; · iexact Ho
  isplitl [Hv]; · iexact Hv
  isplitl [Hg]; · iexact Hg
  isplitl [Hf0]; · iexact Hf0
  iexact Hy1

theorem part10 {Q : FVec F S1024x1024 .fp8e4m3 → sProp 𝕄} :
    iprop(known m ∗ ow c 0 ∗ yacc m c 1 ∗ any c (oC 1) ∗ ysv c 1 ∗ yacc m c 2 ∗ yfl m c 0 0 ∗ any c (oC 2) ∗ yacc m c 3)
      ⊢ iprop((iprop(ow c 0 ∗ yfl m c 1 1 ∗ ydone m c 0 ∗ yfl m c 0 2 ∗ yacc m c 3) -∗ Q (k0_pay18 (k0_pay12 (GA m)) (acc m c 3 3)))
        -∗ run (F := F) c (k0_part10 i xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11 (k0_pay12 (GA m)) (k0_pay13 (GA m)) (k0_pay15 (GA m) (acc m c 3 1))) Q) := by
  rw [k0_part10_eq_skeleton]; unfold k0_part10_skel
  simp only [Prog.lift, Prog.bind_op, Prog.bind_ret, Prog.pure_eq_ret]
  iintro ⟨#Hkn, Ho, Hy1, Hd1, Hv1, Hy2, Hf0, Hd2, Hy3⟩ Hk
  iapply (ld c yM rfl (p' := inb_y 1)) $$ Hy1
  iintro Hy1
  iapply (st c yM rfl (p' := inb_y 1)) $$ [Hy1]
  · iexists _; iexact Hy1
  iintro Hy1
  ihave Hy1 := (Entails.of_eq (congrArg (owns (c : Thread nD τ) (yC 1) fullShare : _ → sProp 𝕄) (show k0_pay16 (k0_pay13 (GA m)) (k0_pay15 (GA m) (acc m c 3 1)) = outc m c 1 from rfl))) $$ Hy1
  iapply (cp c (src' := yC 1) (dst' := oC 1) (sm' := ysem 1) rfl rfl rfl numel_pos (X := outc m c 1) (q := fullShare)) $$ [Hy1 Hd1 Hv1]
  · isplitl [Hy1]; · iexact Hy1
    isplitl [Hd1]; · iexact Hd1
    iexact Hv1
  iintro Hf1
  iapply (ld c yM rfl (p' := inb_y 2)) $$ Hy2
  iintro Hy2
  iapply (cpw m c 0 (src' := yC 0) (dst' := oC 0) (sm' := ysem 0) (X := outc m c 0) (q := fullShare) rfl rfl (csem_ysem 0)) $$ [Hf0 Ho]
  · isplitr; · iexact Hkn
    isplitl [Hf0]; · iexact Hf0
    iexact Ho
  iintro ⟨Hd0, Hy0, Hv0, Ho⟩
  iapply (ld c yM rfl (p' := inb_y 2)) $$ Hy2
  iintro Hy2
  iapply (st c yM rfl (p' := inb_y 2)) $$ [Hy2]
  · iexists _; iexact Hy2
  iintro Hy2
  ihave Hy2 := (Entails.of_eq (congrArg (owns (c : Thread nD τ) (yC 2) fullShare : _ → sProp 𝕄) (show k0_pay17 (k0_pay12 (GA m)) (k0_pay13 (GA m)) (acc m c 3 2) = outc m c 2 from rfl))) $$ Hy2
  iapply (cp c (src' := yC 2) (dst' := oC 2) (sm' := ysem 0) rfl rfl rfl numel_pos (X := outc m c 2) (q := fullShare)) $$ [Hy2 Hd2 Hv0]
  · isplitl [Hy2]; · iexact Hy2
    isplitl [Hd2]; · iexact Hd2
    iexact Hv0
  iintro Hf2
  iapply (ld c yM rfl (p' := inb_y 3)) $$ Hy3
  iintro Hy3
  iapply (done c)
  iapply Hk
  isplitl [Ho]; · iexact Ho
  isplitl [Hf1]; · iexact Hf1
  isplitl [Hd0 Hy0]
  · isplitl [Hd0]; · iexact Hd0
    iexact Hy0
  isplitl [Hf2]; · iexact Hf2
  iexact Hy3

theorem part11 {Q : PUnit → sProp 𝕄} :
    iprop(known m ∗ ow c 0 ∗ yfl m c 1 1 ∗ yacc m c 3 ∗ any c (oC 3) ∗ yacc m c 4 ∗ yfl m c 0 2)
      ⊢ iprop((iprop(ow c 0 ∗ ydone m c 1 ∗ yfl m c 1 3 ∗ ydone m c 2 ∗ ysv c 0 ∗ yout m c 4) -∗ Q ⟨⟩)
        -∗ run (F := F) c (k0_part11 i xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11 (k0_pay12 (GA m)) (k0_pay13 (GA m)) (k0_pay18 (k0_pay12 (GA m)) (acc m c 3 3))) Q) := by
  rw [k0_part11_eq_skeleton]; unfold k0_part11_skel
  simp only [Prog.lift, Prog.bind_op, Prog.bind_ret, Prog.pure_eq_ret]
  iintro ⟨#Hkn, Ho, Hf1, Hy3, Hd3, Hy4, Hf2⟩ Hk
  iapply (cpw m c 0 (src' := yC 1) (dst' := oC 1) (sm' := ysem 1) (X := outc m c 1) (q := fullShare) rfl rfl (csem_ysem 1)) $$ [Hf1 Ho]
  · isplitr; · iexact Hkn
    isplitl [Hf1]; · iexact Hf1
    iexact Ho
  iintro ⟨Hd1, Hy1, Hv1, Ho⟩
  iapply (ld c yM rfl (p' := inb_y 3)) $$ Hy3
  iintro Hy3
  iapply (st c yM rfl (p' := inb_y 3)) $$ [Hy3]
  · iexists _; iexact Hy3
  iintro Hy3
  ihave Hy3 := (Entails.of_eq (congrArg (owns (c : Thread nD τ) (yC 3) fullShare : _ → sProp 𝕄) (show k0_pay19 (k0_pay13 (GA m)) (k0_pay18 (k0_pay12 (GA m)) (acc m c 3 3)) = outc m c 3 from rfl))) $$ Hy3
  iapply (cp c (src' := yC 3) (dst' := oC 3) (sm' := ysem 1) rfl rfl rfl numel_pos (X := outc m c 3) (q := fullShare)) $$ [Hy3 Hd3 Hv1]
  · isplitl [Hy3]; · iexact Hy3
    isplitl [Hd3]; · iexact Hd3
    iexact Hv1
  iintro Hf3
  iapply (ld c yM rfl (p' := inb_y 4)) $$ Hy4
  iintro Hy4
  iapply (cpw m c 0 (src' := yC 2) (dst' := oC 2) (sm' := ysem 0) (X := outc m c 2) (q := fullShare) rfl rfl (csem_ysem 0)) $$ [Hf2 Ho]
  · isplitr; · iexact Hkn
    isplitl [Hf2]; · iexact Hf2
    iexact Ho
  iintro ⟨Hd2, Hy2, Hv0, Ho⟩
  iapply (ld c yM rfl (p' := inb_y 4)) $$ Hy4
  iintro Hy4
  iapply (st c yM rfl (p' := inb_y 4)) $$ [Hy4]
  · iexists _; iexact Hy4
  iintro Hy4
  ihave Hy4 := (Entails.of_eq (congrArg (owns (c : Thread nD τ) (yC 4) fullShare : _ → sProp 𝕄) (show k0_pay20 (k0_pay12 (GA m)) (k0_pay13 (GA m)) (acc m c 3 4) = outc m c 4 from rfl))) $$ Hy4
  iapply (done c)
  iapply Hk
  isplitl [Ho]; · iexact Ho
  isplitl [Hd1 Hy1]
  · isplitl [Hd1]; · iexact Hd1
    iexact Hy1
  isplitl [Hf3]; · iexact Hf3
  isplitl [Hd2 Hy2]
  · isplitl [Hd2]; · iexact Hd2
    iexact Hy2
  isplitl [Hv0]; · iexact Hv0
  iexact Hy4

theorem part12 {Q : (Σ' (v287 : FVec F S1024x1024 .f32), Vec F S1024x1024 .f32) → sProp 𝕄} :
    iprop(known m ∗ ow c 0 ∗ yout m c 4 ∗ any c (oC 4) ∗ ysv c 0 ∗ yacc m c 5 ∗ yfl m c 1 3 ∗ any c (oC 5) ∗ yacc m c 6)
      ⊢ iprop((iprop(ow c 0 ∗ ydone m c 3 ∗ yfl m c 1 5 ∗ ydone m c 4 ∗ ysv c 0 ∗ yacc m c 6) -∗ Q ⟨(k0_pay22 (k0_pay12 (GA m)) (k0_pay13 (GA m)) (acc m c 3 6)), (acc m c 3 6)⟩)
        -∗ run (F := F) c (k0_part12 i xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11 (k0_pay12 (GA m)) (k0_pay13 (GA m))) Q) := by
  rw [k0_part12_eq_skeleton]; unfold k0_part12_skel
  simp only [Prog.lift, Prog.bind_op, Prog.bind_ret, Prog.pure_eq_ret]
  iintro ⟨#Hkn, Ho, Hy4, Hd4, Hv0, Hy5, Hf3, Hd5, Hy6⟩ Hk
  iapply (cp c (src' := yC 4) (dst' := oC 4) (sm' := ysem 0) rfl rfl rfl numel_pos (X := outc m c 4) (q := fullShare)) $$ [Hy4 Hd4 Hv0]
  · isplitl [Hy4]; · iexact Hy4
    isplitl [Hd4]; · iexact Hd4
    iexact Hv0
  iintro Hf4
  iapply (ld c yM rfl (p' := inb_y 5)) $$ Hy5
  iintro Hy5
  iapply (cpw m c 0 (src' := yC 3) (dst' := oC 3) (sm' := ysem 1) (X := outc m c 3) (q := fullShare) rfl rfl (csem_ysem 1)) $$ [Hf3 Ho]
  · isplitr; · iexact Hkn
    isplitl [Hf3]; · iexact Hf3
    iexact Ho
  iintro ⟨Hd3, Hy3, Hv1, Ho⟩
  iapply (ld c yM rfl (p' := inb_y 5)) $$ Hy5
  iintro Hy5
  iapply (st c yM rfl (p' := inb_y 5)) $$ [Hy5]
  · iexists _; iexact Hy5
  iintro Hy5
  ihave Hy5 := (Entails.of_eq (congrArg (owns (c : Thread nD τ) (yC 5) fullShare : _ → sProp 𝕄) (show k0_pay21 (k0_pay12 (GA m)) (k0_pay13 (GA m)) (acc m c 3 5) = outc m c 5 from rfl))) $$ Hy5
  iapply (cp c (src' := yC 5) (dst' := oC 5) (sm' := ysem 1) rfl rfl rfl numel_pos (X := outc m c 5) (q := fullShare)) $$ [Hy5 Hd5 Hv1]
  · isplitl [Hy5]; · iexact Hy5
    isplitl [Hd5]; · iexact Hd5
    iexact Hv1
  iintro Hf5
  iapply (ld c yM rfl (p' := inb_y 6)) $$ Hy6
  iintro Hy6
  iapply (cpw m c 0 (src' := yC 4) (dst' := oC 4) (sm' := ysem 0) (X := outc m c 4) (q := fullShare) rfl rfl (csem_ysem 0)) $$ [Hf4 Ho]
  · isplitr; · iexact Hkn
    isplitl [Hf4]; · iexact Hf4
    iexact Ho
  iintro ⟨Hd4, Hy4, Hv0, Ho⟩
  iapply (ld c yM rfl (p' := inb_y 6)) $$ Hy6
  iintro Hy6
  iapply (done c)
  iapply Hk
  isplitl [Ho]; · iexact Ho
  isplitl [Hd3 Hy3]
  · isplitl [Hd3]; · iexact Hd3
    iexact Hy3
  isplitl [Hf5]; · iexact Hf5
  isplitl [Hd4 Hy4]
  · isplitl [Hd4]; · iexact Hd4
    iexact Hy4
  isplitl [Hv0]; · iexact Hv0
  iexact Hy6

theorem part13 {Q : PUnit → sProp 𝕄} :
    iprop(known m ∗ ow c 0 ∗ yacc m c 6 ∗ any c (oC 6) ∗ ysv c 0 ∗ yacc m c 7 ∗ yfl m c 1 5 ∗ any c (oC 7))
      ⊢ iprop((iprop(ow c 0 ∗ ydone m c 5 ∗ yfl m c 1 7 ∗ ydone m c 6 ∗ ysv c 0) -∗ Q ⟨⟩)
        -∗ run (F := F) c (k0_part13 i xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11 (k0_pay12 (GA m)) (k0_pay13 (GA m)) (k0_pay22 (k0_pay12 (GA m)) (k0_pay13 (GA m)) (acc m c 3 6)) (acc m c 3 6)) Q) := by
  rw [k0_part13_eq_skeleton]; unfold k0_part13_skel
  simp only [Prog.lift, Prog.bind_op, Prog.bind_ret, Prog.pure_eq_ret]
  iintro ⟨#Hkn, Ho, Hy6, Hd6, Hv0, Hy7, Hf5, Hd7⟩ Hk
  iapply (st c yM rfl (p' := inb_y 6)) $$ [Hy6]
  · iexists _; iexact Hy6
  iintro Hy6
  ihave Hy6 := (Entails.of_eq (congrArg (owns (c : Thread nD τ) (yC 6) fullShare : _ → sProp 𝕄) (show k0_pay23 (k0_pay22 (k0_pay12 (GA m)) (k0_pay13 (GA m)) (acc m c 3 6)) = outc m c 6 from rfl))) $$ Hy6
  iapply (cp c (src' := yC 6) (dst' := oC 6) (sm' := ysem 0) rfl rfl rfl numel_pos (X := outc m c 6) (q := fullShare)) $$ [Hy6 Hd6 Hv0]
  · isplitl [Hy6]; · iexact Hy6
    isplitl [Hd6]; · iexact Hd6
    iexact Hv0
  iintro Hf6
  iapply (ld c yM rfl (p' := inb_y 7)) $$ Hy7
  iintro Hy7
  iapply (cpw m c 0 (src' := yC 5) (dst' := oC 5) (sm' := ysem 1) (X := outc m c 5) (q := fullShare) rfl rfl (csem_ysem 1)) $$ [Hf5 Ho]
  · isplitr; · iexact Hkn
    isplitl [Hf5]; · iexact Hf5
    iexact Ho
  iintro ⟨Hd5, Hy5, Hv1, Ho⟩
  iapply (ld c yM rfl (p' := inb_y 7)) $$ Hy7
  iintro Hy7
  iapply (st c yM rfl (p' := inb_y 7)) $$ [Hy7]
  · iexists _; iexact Hy7
  iintro Hy7
  ihave Hy7 := (Entails.of_eq (congrArg (owns (c : Thread nD τ) (yC 7) fullShare : _ → sProp 𝕄) (show k0_pay24 (k0_pay12 (GA m)) (k0_pay13 (GA m)) (acc m c 3 7) = outc m c 7 from rfl))) $$ Hy7
  iapply (cp c (src' := yC 7) (dst' := oC 7) (sm' := ysem 1) rfl rfl rfl numel_pos (X := outc m c 7) (q := fullShare)) $$ [Hy7 Hd7 Hv1]
  · isplitl [Hy7]; · iexact Hy7
    isplitl [Hd7]; · iexact Hd7
    iexact Hv1
  iintro Hf7
  iapply (cpw m c 0 (src' := yC 6) (dst' := oC 6) (sm' := ysem 0) (X := outc m c 6) (q := fullShare) rfl rfl (csem_ysem 0)) $$ [Hf6 Ho]
  · isplitr; · iexact Hkn
    isplitl [Hf6]; · iexact Hf6
    iexact Ho
  iintro ⟨Hd6, Hy6, Hv0, Ho⟩
  iapply (done c)
  iapply Hk
  isplitl [Ho]; · iexact Ho
  isplitl [Hd5 Hy5]
  · isplitl [Hd5]; · iexact Hd5
    iexact Hy5
  isplitl [Hf7]; · iexact Hf7
  isplitl [Hd6 Hy6]
  · isplitl [Hd6]; · iexact Hd6
    iexact Hy6
  iexact Hv0

end Cert.Run
-- ==== Proof.Loop.lean ====
/- The rest of a grid point: the block product, the accumulator and the running maximum. -/
module

public import proofs.«01_k».proof.Proof.Ending

@[expose] public section

set_option maxRecDepth 16384

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- Column block `n` once the product of grid point `t` is formed: the first stage has stored it already. -/
def ymid (t : ℕ) : sProp 𝕄 := if t / 8 = 0 then ycol m c 1 (nF t) else ycol m c (t / 8) (nF t)

theorem ycol_pos {s : ℕ} (h : 0 < s) (n : Fin 8) : ycol m c s n = owns (c : Thread nD τ) (yC n) fullShare (acc m c (s - 1) n) := by
  cases s with
  | zero => exact absurd h (lt_irrefl 0)
  | succ s => rfl

theorem NX_bof {off : Fin 3 → ℕ} {p : ∀ i, off i + S1x1024x1024.size i ≤ S2x1024x1024.size i} {j : Fin 2} :
    ((bM.slice (Rect.unit (s := S2x1024x1024) off S1x1024x1024.size p) (fun _ => rfl)).squeeze S1024x1024 squeezes_S1x1024x1024_S1024x1024).view.dmaCredit
      = (bQ j).view.dmaCredit := rfl

abbrev R15 : Type := Σ' (v56 : FVec F S1024x1024 .f32) (v57 : BitVec 32) (v64 : BitVec 32), BitVec 32

theorem part15 {Q : R15 (F := F) → sProp 𝕄} (t : Fin cfg0.N) (n : ℕ) (a0 a1 v2 v4 v25 : BitVec 32) :
    iprop(known m ∗ gall m c (t.val + 1) ∗ wgo m c t.val ∗ ycol m c (t.val / 8) (nF t.val) ∗ ow c n)
      ⊢ iprop((∀ v57 v64, iprop(gall m c (t.val + 1) ∗ wfr m c t.val ∗ ymid m c t.val ∗ ow c n) -∗ Q ⟨part m c (t.val / 8) (nF t.val), v57, v64, 0#32⟩)
        -∗ run (F := F) c (k0_part15 (grid0.coords t) xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11 a0 a1 c v2 v4 v25 2#32) Q) := by
  have hlt : t.val < 32 := lt_of_lt_of_eq t.isLt N_0
  rw [k0_part15_eq_skeleton]; unfold k0_part15_skel
  simp only [Prog.lift, Prog.bind_op, Prog.bind_ret, Prog.pure_eq_ret]
  unfold wgo wfr
  iintro ⟨#Hkn, Hg, Hw, Hy, Ho⟩ Hk
  iapply (wwt m c (bF t.val) (ksrc c (t.val / 8)) (nF t.val) n (off14_at t) NX_bof) $$ [Hw Ho]
  · isplitr; · iexact Hkn
    isplitl [Hw]; · iexact Hw
    iexact Ho
  iintro ⟨Hb, Hw, Ho⟩
  ihave Hg := (gall_get m c hlt) $$ Hg
  icases Hg with ⟨Hg, Hback⟩
  iapply (ld c gM (off17_at t c) (p' := inb_g _)) $$ Hg
  iintro Hg
  ihave Hg := Hback $$ Hg
  iapply (ld c bM (off18_at t) (p' := inb_b _)) $$ Hb
  iintro Hb
  iapply (ifU c (ycol m c (t.val / 8) (nF t.val)) (ymid m c t.val)) $$ [Hy]
  · isplitr
    · ipureintro; intro h5
      have hs := (cond5_at t).mp h5
      unfold ymid
      rw [if_pos hs, show ycol m c (t.val / 8) (nF t.val) = any c (yC (nF t.val)) by rw [hs]; rfl,
        show ycol m c 1 (nF t.val) = owns (c : Thread nD τ) (yC (nF t.val)) fullShare (acc m c 0 (nF t.val)) from rfl]
      iintro ⟨%Y, Hy⟩ Hk
      iapply (ld c yM (off19_at t) (p' := inb_y _)) $$ Hy
      iintro Hy
      iapply (st c yM (off19_at t) (p' := inb_y _)) $$ [Hy]
      · iexists Y; iexact Hy
      iintro Hy
      iapply Hk
      have e : k0_pay26 (XB m (ksrc c (t.val / 8)) c) (up (wblk m c (ksrc c (t.val / 8)) (nF t.val))) = acc m c 0 (nF t.val) := by rw [hs]; rfl
      iapply (Entails.of_eq (congrArg (owns (c : Thread nD τ) (yC (nF t.val)) fullShare) e)) $$ Hy
    isplitr
    · ipureintro; intro h5
      unfold ymid
      rw [if_neg (fun h => h5 ((cond5_at t).mpr h))]
    iexact Hy
  iintro Hy
  iapply (done c)
  rw [show k0_pay25 (XB m (ksrc c (t.val / 8)) c) (up (wblk m c (ksrc c (t.val / 8)) (nF t.val))) = part m c (t.val / 8) (nF t.val) from rfl]
  iapply Hk
  isplitl [Hg]; · iexact Hg
  isplitl [Hw Hb]
  · isplitl [Hw]; · iexact Hw
    iexists _; iexact Hb
  isplitl [Hy]; · iexact Hy
  iexact Ho

/-! ## The running maximum -/

theorem aown_open {t : ℕ} (h : t = 24) : aown m c t = any c (aS c) := by subst h; rfl
theorem aown_zero {t : ℕ} (h : t = 24) :
    aown m c (t + 1) = owns (c : Thread nD τ) (aS c) fullShare (k0_pay5 (part m c 3 (nF t)) (acc m c 2 (nF t))) := by subst h; rfl
theorem aown_at {t : ℕ} (h : 24 < t) : aown m c t = owns (c : Thread nD τ) (aS c) fullShare (amax m c (t - 25)) := if_neg (Nat.not_le.mpr h)
theorem aown_succ {t : ℕ} (h : 24 < t) :
    aown m c (t + 1) = owns (c : Thread nD τ) (aS c) fullShare (k0_pay6 (part m c 3 (nF t)) (acc m c 2 (nF t)) (amax m c (t - 25))) := by
  obtain ⟨k, rfl⟩ : ∃ k, t = 25 + k := ⟨t - 25, by omega⟩
  rw [aown_at m c (by omega : 24 < 25 + k + 1)]
  have e : nF (25 + k) = nF (k + 1) := Fin.ext (by show (25 + k) % 8 = (k + 1) % 8; omega)
  rw [e, show 25 + k + 1 - 25 = k + 1 by omega, show 25 + k - 25 = k by omega]
  rfl
theorem aown_keep {t : ℕ} (h : t < 24) : aown m c (t + 1) = aown m c t := by
  unfold aown
  rw [if_pos (by omega), if_pos (by omega)]

theorem acc_next {s : ℕ} (h : s = 1 ∨ s = 2) (n : Fin 8) : k0_pay1 (part m c s n) (acc m c (s - 1) n) = acc m c s n := by
  rcases h with rfl | rfl <;> rfl
theorem acc_last {s : ℕ} (h : s = 3) (n : Fin 8) : k0_pay3 (part m c s n) (acc m c (s - 1) n) = acc m c s n := by
  subst h; rfl

/-! ## What the closing of the last grid point takes and gives -/

theorem eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = insert 0 (insert 1 (insert 2 (insert 3 (insert 4 (insert 5 (insert 6 {7})))))) by decide,
    bigSep_insert (by decide), bigSep_insert (by decide), bigSep_insert (by decide), bigSep_insert (by decide), bigSep_insert (by decide),
    bigSep_insert (by decide), bigSep_insert (by decide), bigSep_singleton]
  rfl

def fin0 : sProp 𝕄 :=
  iprop(known m ∗ ow c 3 ∗ (crd c (.send 2) ∗ atp c (.send 2)) ∗ aown m c 32
    ∗ (any (pr c 0) (aS c) ∗ any (pr c 1) (aS c) ∗ any (pr c 2) (aS c)) ∗ (xch c 0 ∗ xch c 1 ∗ xch c 2)
    ∗ ycols m c 32 ∗ (bigSep Finset.univ fun n : Fin 8 => any c (oC n)) ∗ ysv c 0 ∗ ysv c 1)
def fin2 : sProp 𝕄 :=
  iprop((sv0 c (.send 2) ∗ any c (sS 2)) ∗ owns (c : Thread nD τ) aM fullShare (GA m)
    ∗ (sv0 c (.asend 0) ∗ sv0 c (.asend 1) ∗ sv0 c (.asend 2)) ∗ (sv0 c (.arecv (pr c 0)) ∗ sv0 c (.arecv (pr c 1)) ∗ sv0 c (.arecv (pr c 2)))
    ∗ (bigSep Finset.univ fun n : Fin 8 => ydone m c n) ∗ ysv c 0 ∗ ysv c 1)
def fin1 : sProp 𝕄 := iprop(ow c 0 ∗ fin2 m c)

theorem fin0_open : fin0 m c ⊢ iprop(known m ∗ ow c 3 ∗ (crd c (.send 2) ∗ atp c (.send 2)) ∗ owns (c : Thread nD τ) (aS c) fullShare (AG m c)
    ∗ (any (pr c 0) (aS c) ∗ any (pr c 1) (aS c) ∗ any (pr c 2) (aS c)) ∗ (xch c 0 ∗ xch c 1 ∗ xch c 2)
    ∗ (yacc m c 0 ∗ yacc m c 1 ∗ yacc m c 2 ∗ yacc m c 3 ∗ yacc m c 4 ∗ yacc m c 5 ∗ yacc m c 6 ∗ yacc m c 7)
    ∗ (any c (oC 0) ∗ any c (oC 1) ∗ any c (oC 2) ∗ any c (oC 3) ∗ any c (oC 4) ∗ any c (oC 5) ∗ any c (oC 6) ∗ any c (oC 7)) ∗ ysv c 0 ∗ ysv c 1) := by
  have e1 : aown m c 32 = owns (c : Thread nD τ) (aS c) fullShare (AG m c) := rfl
  have e2 : ycols m c 32 = iprop(yacc m c 0 ∗ yacc m c 1 ∗ yacc m c 2 ∗ yacc m c 3 ∗ yacc m c 4 ∗ yacc m c 5 ∗ yacc m c 6 ∗ yacc m c 7) := by
    unfold ycols
    rw [eight]
    rfl
  unfold fin0
  rw [e1, e2, eight]

theorem body_run {Q : PUnit → sProp 𝕄} (t : Fin cfg0.N) (pre post R : sProp 𝕄)
    (h14 : ∀ Q : R14 → sProp 𝕄, iprop(known m ∗ pre)
      ⊢ iprop((∀ a0 a1 v2 v4 v25, iprop(known m ∗ gall m c (t.val + 1) ∗ wgo m c t.val ∗ ow c (obM (t.val + 1)) ∗ post) -∗ Q ⟨a0, a1, c, v2, v4, v25, 2#32⟩)
        -∗ run (F := F) c (k0_part14 (grid0.coords t) xM (Memref.isWhole_whole _) wM (Memref.isWhole_whole _) oM (Memref.isWhole_whole _) sM (Memref.isWhole_whole _) gM (Memref.isWhole_whole _) yM (Memref.isWhole_whole _) bM (Memref.isWhole_whole _) aM (Memref.isWhole_whole _) cc0_scratch5 cc0_scratch6 cc0_scratch7 cc0_scratch8 cc0_scratch9 cc0_scratch10 cc0_scratch11) Q))
    (hB : t.val ≠ 31 → (iprop(known m ∗ gall m c (t.val + 1) ∗ wfr m c t.val ∗ ycols m c (t.val + 1) ∗ aown m c (t.val + 1) ∗ ow c (obM (t.val + 1)) ∗ post) ⊢ R))
    (hA : t.val = 31 → (iprop(known m ∗ gall m c (t.val + 1) ∗ wfr m c t.val ∗ ycols m c (t.val + 1) ∗ aown m c (t.val + 1) ∗ ow c (obM (t.val + 1)) ∗ post)
      ⊢ iprop(fin0 m c ∗ (fin1 m c -∗ R)))) :
    iprop(known m ∗ pre ∗ ycols m c t.val ∗ aown m c t.val)
      ⊢ iprop((R -∗ Q ⟨⟩) -∗ run (F := F) c (bodyAt0 t) Q) := by
  have hlt : t.val < 32 := lt_of_lt_of_eq t.isLt N_0
  unfold bodyAt0
  rw [cc0_body_eq_skeleton]; unfold cc0_body_skel
  simp only [Prog.lift, Prog.bind_op, Prog.bind_ret, Prog.pure_eq_ret, wp_bind]
  iintro ⟨#Hkn, Hpre, Hy, Ha⟩ Hk
  iapply (h14 _) $$ [Hpre]
  · isplitr; · iexact Hkn
    iexact Hpre
  iintro %a0 %a1 %v2 %v4 %v25 ⟨-, Hg, Hw, Ho, Hpost⟩
  dsimp only
  ihave Hy := (ycols_at m c t.val) $$ Hy
  icases Hy with ⟨Hy, Hback⟩
  iapply (part15 m c t (obM (t.val + 1)) a0 a1 v2 v4 v25) $$ [Hg Hw Hy Ho]
  · isplitr; · iexact Hkn
    isplitl [Hg]; · iexact Hg
    isplitl [Hw]; · iexact Hw
    isplitl [Hy]; · iexact Hy
    iexact Ho
  iintro %v57 %v64 ⟨Hg, Hw, Hy, Ho⟩
  dsimp only
  iapply (ifU c (ymid m c t.val) (if t.val / 8 = 3 then ymid m c t.val else ycol m c (t.val / 8 + 1) (nF t.val))) $$ [Hy]
  · isplitr
    · ipureintro; intro h6
      have hs := (cond6_at t).mp h6
      have e1 : ymid m c t.val = owns (c : Thread nD τ) (yC (nF t.val)) fullShare (acc m c (t.val / 8 - 1) (nF t.val)) := by
        unfold ymid; rw [if_neg (by omega), ycol_pos m c (by omega)]
      have e2 : ycol m c (t.val / 8 + 1) (nF t.val) = owns (c : Thread nD τ) (yC (nF t.val)) fullShare (k0_pay1 (part m c (t.val / 8) (nF t.val)) (acc m c (t.val / 8 - 1) (nF t.val))) := by
        rw [acc_next m c hs]; rfl
      rw [if_neg (by omega), e1, e2]
      iintro Hy Hk
      iapply (ld c yM (off20_at t) (p' := inb_y _)) $$ Hy
      iintro Hy
      iapply (ld c yM (off20_at t) (p' := inb_y _)) $$ Hy
      iintro Hy
      iapply (st c yM (off20_at t) (p' := inb_y _)) $$ [Hy]
      · iexists _; iexact Hy
      iintro Hy
      iapply Hk
      iexact Hy
    isplitr
    · ipureintro; intro h6
      have hs : ¬(t.val / 8 = 1 ∨ t.val / 8 = 2) := fun h => h6 ((cond6_at t).mpr h)
      by_cases h3 : t.val / 8 = 3
      · rw [if_pos h3]
      · rw [if_neg h3]
        unfold ymid
        rw [if_pos (by omega), show t.val / 8 + 1 = 1 by omega]
    iexact Hy
  iintro Hy
  iapply (ifU c iprop((if t.val / 8 = 3 then ymid m c t.val else ycol m c (t.val / 8 + 1) (nF t.val)) ∗ aown m c t.val)
      iprop(ycol m c (t.val / 8 + 1) (nF t.val) ∗ aown m c (t.val + 1))) $$ [Hy Ha]
  · isplitr
    · ipureintro; intro h7
      have hs := (cond7_at t).mp h7
      have e1 : ymid m c t.val = owns (c : Thread nD τ) (yC (nF t.val)) fullShare (acc m c (t.val / 8 - 1) (nF t.val)) := by
        unfold ymid; rw [if_neg (by omega), ycol_pos m c (by omega)]
      have e2 : ycol m c (t.val / 8 + 1) (nF t.val) = owns (c : Thread nD τ) (yC (nF t.val)) fullShare (k0_pay3 (part m c (t.val / 8) (nF t.val)) (acc m c (t.val / 8 - 1) (nF t.val))) := by
        rw [acc_last m c hs]; rfl
      rw [if_pos hs, e1, e2]
      iintro ⟨Hy, Ha⟩ Hk
      iapply (ld c yM (off21_at t) (p' := inb_y _)) $$ Hy
      iintro Hy
      iapply (ld c yM (off21_at t) (p' := inb_y _)) $$ Hy
      iintro Hy
      iapply (st c yM (off21_at t) (p' := inb_y _)) $$ [Hy]
      · iexists _; iexact Hy
      iintro Hy
      iapply (ifU c (aown m c t.val) (if t.val = 24 then aown m c (t.val + 1) else aown m c t.val)) $$ [Ha]
      · isplitr
        · ipureintro; intro h8
          have h24 : t.val = 24 := by have := (cond8_at t).mp h8; omega
          have e3 : k0_pay5 (part m c 3 (nF t.val)) (acc m c 2 (nF t.val)) = k0_pay5 (part m c (t.val / 8) (nF t.val)) (acc m c (t.val / 8 - 1) (nF t.val)) := by rw [hs]
          rw [if_pos h24, aown_open m c h24, aown_zero m c h24, e3]
          iintro ⟨%A, Ha⟩ Hk
          iapply (ld c aM (k0_off22_eq c) (p' := inb_a _)) $$ Ha
          iintro Ha
          iapply (st c aM (k0_off22_eq c) (p' := inb_a _)) $$ [Ha]
          · iexists _; iexact Ha
          iintro Ha
          iapply Hk
          iexact Ha
        isplitr
        · ipureintro; intro h8
          have h24 : t.val ≠ 24 := fun h => h8 ((cond8_at t).mpr (by omega))
          rw [if_neg h24]
        iexact Ha
      iintro Ha
      iapply (ifU c (if t.val = 24 then aown m c (t.val + 1) else aown m c t.val) (aown m c (t.val + 1))) $$ [Ha]
      · isplitr
        · ipureintro; intro h9
          have h24 : 24 < t.val := by have := (cond9_at t).mp h9; omega
          have e3 : k0_pay6 (part m c 3 (nF t.val)) (acc m c 2 (nF t.val)) (amax m c (t.val - 25))
            = k0_pay6 (part m c (t.val / 8) (nF t.val)) (acc m c (t.val / 8 - 1) (nF t.val)) (amax m c (t.val - 25)) := by rw [hs]
          rw [if_neg (by omega), aown_succ m c h24, aown_at m c h24, e3]
          iintro Ha Hk
          iapply (ld c aM (k0_off23_eq c) (p' := inb_a _)) $$ Ha
          iintro Ha
          iapply (ld c aM (k0_off23_eq c) (p' := inb_a _)) $$ Ha
          iintro Ha
          iapply (st c aM (k0_off23_eq c) (p' := inb_a _)) $$ [Ha]
          · iexists _; iexact Ha
          iintro Ha
          iapply Hk
          iexact Ha
        isplitr
        · ipureintro; intro h9
          have h24 : t.val = 24 := by
            by_contra h
            exact h9 ((cond9_at t).mpr (by omega))
          rw [if_pos h24]
        iexact Ha
      iintro Ha
      iapply Hk
      isplitl [Hy]; · iexact Hy
      iexact Ha
    isplitr
    · ipureintro; intro h7
      have h3 : t.val / 8 ≠ 3 := fun h => h7 ((cond7_at t).mpr h)
      rw [if_neg h3, aown_keep m c (by omega)]
    isplitl [Hy]; · iexact Hy
    iexact Ha
  iintro ⟨Hy, Ha⟩
  ihave Hy := Hback $$ Hy
  iapply (ifU c iprop(known m ∗ gall m c (t.val + 1) ∗ wfr m c t.val ∗ ycols m c (t.val + 1) ∗ aown m c (t.val + 1) ∗ ow c (obM (t.val + 1)) ∗ post) R) $$ [Hg Hw Hy Ha Ho Hpost]
  · isplitr
    · ipureintro; intro h10
      have h31 := (cond10_at t).mp h10
      simp only [wp_bind]
      refine BIBase.Entails.trans (hA h31) ?_
      iintro ⟨H, HR⟩ Hk
      ihave H := (fin0_open m c) $$ H
      unfold xch
      icases H with ⟨#Hkn, Ho, ⟨Hsc, Hsp⟩, Ha, ⟨Hd0, Hd1, Hd2⟩, ⟨⟨Ht0, Hu0, Hap0, Hrp0, Hrc0⟩, ⟨Ht1, Hu1, Hap1, Hrp1, Hrc1⟩, ⟨Ht2, Hu2, Hap2, Hrp2, Hrc2⟩⟩, ⟨Hy0, Hy1, Hy2, Hy3, Hy4, Hy5, Hy6, Hy7⟩, ⟨Ho0, Ho1, Ho2, Ho3, Ho4, Ho5, Ho6, Ho7⟩, Hv0, Hv1⟩
      ihave Ha := (ash_split m c) $$ Ha
      icases Ha with ⟨Ha0, Ha1, Ha2⟩
      iapply (part6 m c (grid0.coords t) _ h10) $$ [Hsc Hsp Ho Ha0 Hd0 Ht0 Hu0]
      · isplitr; · iexact Hkn
        isplitl [Hsc]; · iexact Hsc
        isplitl [Hsp]; · iexact Hsp
        isplitl [Ho]; · iexact Ho
        isplitl [Ha0]; · iexact Ha0
        isplitl [Hd0]; · iexact Hd0
        isplitl [Ht0]; · iexact Ht0
        iexact Hu0
      iintro ⟨Ho, Hsv, Hs2, Hac0⟩
      try dsimp only
      iapply (part7 m c (grid0.coords t) _ h10) $$ [Ho Ha1 Hd1 Ht1 Hu1 Ha2 Hd2 Ht2 Hu2 Hrc0 Hrp0]
      · isplitr; · iexact Hkn
        isplitl [Ho]; · iexact Ho
        isplitl [Ha1 Hd1 Ht1 Hu1]
        · isplitl [Ha1]; · iexact Ha1
          isplitl [Hd1]; · iexact Hd1
          isplitl [Ht1]; · iexact Ht1
          iexact Hu1
        isplitl [Ha2 Hd2 Ht2 Hu2]
        · isplitl [Ha2]; · iexact Ha2
          isplitl [Hd2]; · iexact Hd2
          isplitl [Ht2]; · iexact Ht2
          iexact Hu2
        isplitl [Hrc0]; · iexact Hrc0
        iexact Hrp0
      iintro ⟨Ho, Hac1, Hac2, Hrv0, Hr0⟩
      try dsimp only
      iapply (part8 m c (grid0.coords t) _ h10) $$ [Ho Hrc1 Hrp1 Hrc2 Hrp2 Hac0 Hap0 Hac1 Hap1]
      · isplitr; · iexact Hkn
        isplitl [Ho]; · iexact Ho
        isplitl [Hrc1 Hrp1]
        · isplitl [Hrc1]; · iexact Hrc1
          iexact Hrp1
        isplitl [Hrc2 Hrp2]
        · isplitl [Hrc2]; · iexact Hrc2
          iexact Hrp2
        isplitl [Hac0 Hap0]
        · isplitl [Hac0]; · iexact Hac0
          iexact Hap0
        isplitl [Hac1]; · iexact Hac1
        iexact Hap1
      iintro %v162 ⟨Ho, ⟨Hrv1, Hr1⟩, ⟨Hrv2, Hr2⟩, ⟨Hav0, Ha0⟩, ⟨Hav1, Ha1⟩⟩
      try dsimp only
      iapply (part9 m c (grid0.coords t) v162 h10) $$ [Ho Hac2 Hap2 Ha0 Ha1 Hr0 Hr1 Hr2 Hy0 Ho0 Hv0 Hy1]
      · isplitr; · iexact Hkn
        isplitl [Ho]; · iexact Ho
        isplitl [Hac2 Hap2]
        · isplitl [Hac2]; · iexact Hac2
          iexact Hap2
        isplitl [Ha0 Ha1 Hr0 Hr1 Hr2]
        · isplitl [Ha0]; · iexact Ha0
          isplitl [Ha1]; · iexact Ha1
          isplitl [Hr0]; · iexact Hr0
          isplitl [Hr1]; · iexact Hr1
          iexact Hr2
        isplitl [Hy0]; · iexact Hy0
        isplitl [Ho0]; · iexact Ho0
        isplitl [Hv0]; · iexact Hv0
        iexact Hy1
      iintro ⟨Ho, Hav2, Hag, Hf0, Hy1⟩
      try dsimp only
      iapply (part10 m c (grid0.coords t)) $$ [Ho Hy1 Ho1 Hv1 Hy2 Hf0 Ho2 Hy3]
      · isplitr; · iexact Hkn
        isplitl [Ho]; · iexact Ho
        isplitl [Hy1]; · iexact Hy1
        isplitl [Ho1]; · iexact Ho1
        isplitl [Hv1]; · iexact Hv1
        isplitl [Hy2]; · iexact Hy2
        isplitl [Hf0]; · iexact Hf0
        isplitl [Ho2]; · iexact Ho2
        iexact Hy3
      iintro ⟨Ho, Hf1, Hz0, Hf2, Hy3⟩
      try dsimp only
      iapply (part11 m c (grid0.coords t)) $$ [Ho Hf1 Hy3 Ho3 Hy4 Hf2]
      · isplitr; · iexact Hkn
        isplitl [Ho]; · iexact Ho
        isplitl [Hf1]; · iexact Hf1
        isplitl [Hy3]; · iexact Hy3
        isplitl [Ho3]; · iexact Ho3
        isplitl [Hy4]; · iexact Hy4
        iexact Hf2
      iintro ⟨Ho, Hz1, Hf3, Hz2, Hv0, Hy4⟩
      try dsimp only
      iapply (part12 m c (grid0.coords t)) $$ [Ho Hy4 Ho4 Hv0 Hy5 Hf3 Ho5 Hy6]
      · isplitr; · iexact Hkn
        isplitl [Ho]; · iexact Ho
        isplitl [Hy4]; · iexact Hy4
        isplitl [Ho4]; · iexact Ho4
        isplitl [Hv0]; · iexact Hv0
        isplitl [Hy5]; · iexact Hy5
        isplitl [Hf3]; · iexact Hf3
        isplitl [Ho5]; · iexact Ho5
        iexact Hy6
      iintro ⟨Ho, Hz3, Hf5, Hz4, Hv0, Hy6⟩
      try dsimp only
      iapply (part13 m c (grid0.coords t)) $$ [Ho Hy6 Ho6 Hv0 Hy7 Hf5 Ho7]
      · isplitr; · iexact Hkn
        isplitl [Ho]; · iexact Ho
        isplitl [Hy6]; · iexact Hy6
        isplitl [Ho6]; · iexact Ho6
        isplitl [Hv0]; · iexact Hv0
        isplitl [Hy7]; · iexact Hy7
        isplitl [Hf5]; · iexact Hf5
        iexact Ho7
      iintro ⟨Ho, Hz5, Hf7, Hz6, Hv0⟩
      try dsimp only
      iapply (cpw m c 0 (src' := yC 7) (dst' := oC 7) (sm' := ysem 1) (X := outc m c 7) (q := fullShare) rfl rfl (csem_ysem 1)) $$ [Hf7 Ho]
      · isplitr; · iexact Hkn
        isplitl [Hf7]; · iexact Hf7
        iexact Ho
      iintro ⟨Hd7, Hy7, Hv1, Ho⟩
      iapply Hk
      iapply HR
      unfold fin1 fin2
      rw [eight]
      isplitl [Ho]; · iexact Ho
      isplitl [Hsv Hs2]
      · isplitl [Hsv]; · iexact Hsv
        iexact Hs2
      isplitl [Hag]; · iexact Hag
      isplitl [Hav0 Hav1 Hav2]
      · isplitl [Hav0]; · iexact Hav0
        isplitl [Hav1]; · iexact Hav1
        iexact Hav2
      isplitl [Hrv0 Hrv1 Hrv2]
      · isplitl [Hrv0]; · iexact Hrv0
        isplitl [Hrv1]; · iexact Hrv1
        iexact Hrv2
      isplitl [Hz0 Hz1 Hz2 Hz3 Hz4 Hz5 Hz6 Hd7 Hy7]
      · isplitl [Hz0]; · iexact Hz0
        isplitl [Hz1]; · iexact Hz1
        isplitl [Hz2]; · iexact Hz2
        isplitl [Hz3]; · iexact Hz3
        isplitl [Hz4]; · iexact Hz4
        isplitl [Hz5]; · iexact Hz5
        isplitl [Hz6]; · iexact Hz6
        isplitl [Hd7]; · iexact Hd7
        iexact Hy7
      isplitl [Hv0]; · iexact Hv0
      iexact Hv1
    isplitr
    · ipureintro; intro h10
      exact hB (fun h => h10 ((cond10_at t).mpr h))
    isplitr; · iexact Hkn
    isplitl [Hg]; · iexact Hg
    isplitl [Hw]; · iexact Hw
    isplitl [Hy]; · iexact Hy
    isplitl [Ha]; · iexact Ha
    isplitl [Ho]; · iexact Ho
    iexact Hpost
  iintro HR
  iapply (done c)
  iapply Hk
  iexact HR

end Cert.Run
-- ==== Proof.Body.lean ====
/- What holds between the grid points, and that the kernel's body keeps it. -/
module

public import proofs.«01_k».proof.Proof.Loop

@[expose] public section

set_option maxRecDepth 16384

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- Before the first grid point. -/
def phi0 : sProp 𝕄 := iprop(known m ∗ opn m c ∗ ycols m c 0 ∗ aown m c 0 ∗ lateA c)
/-- Before grid point `n`, inside the grid. -/
def phiM (n : ℕ) : sProp 𝕄 :=
  iprop(known m ∗ gall m c n ∗ snds m c n ∗ wnx m c n ∗ wfr m c (n + 1) ∗ ycols m c n ∗ aown m c n ∗ lateX m c ∗ lateA c)
/-- After the last grid point. -/
def phiE : sProp 𝕄 :=
  iprop(gall m c 32 ∗ wfr m c 31 ∗ wfr m c 32 ∗ (sv0 c (.send 0) ∗ any c (sS 0)) ∗ (sv0 c (.send 1) ∗ any c (sS 1))
    ∗ (xidle m c 0 ∗ xidle m c 1 ∗ sv0 c .bar) ∗ (sv0 c (.recv c) ∗ sv0 c (.arecv c)) ∗ fin2 m c)
def phi (n : ℕ) : sProp 𝕄 := if n = 0 then phi0 m c else if n < 32 then phiM m c n else phiE m c
/-- How many payments the device owes before grid point `n`. -/
def owN (n : ℕ) : ℕ := if n = 0 then 9 else if n < 32 then obM n else 0

theorem wnx_go {n : ℕ} (h : n < 32) : wnx m c n = wgo m c n := if_pos h
theorem phi_mid {n : ℕ} (h0 : n ≠ 0) (h : n < 32) : phi m c n = phiM m c n := by unfold phi; rw [if_neg h0, if_pos h]
theorem owN_mid {n : ℕ} (h0 : n ≠ 0) (h : n < 32) : owN n = obM n := by unfold owN; rw [if_neg h0, if_pos h]

theorem first_run {Q : PUnit → sProp 𝕄} (t : Fin cfg0.N) (ht : t.val = 0) :
    iprop(phi m c t.val ∗ ow c (owN t.val)) ⊢ iprop((iprop(phi m c (t.val + 1) ∗ ow c (owN (t.val + 1))) -∗ Q ⟨⟩) -∗ run (F := F) c (bodyAt0 t) Q) := by
  have hg := body_run m c (Q := Q) t
    iprop(opn m c ∗ lateA c ∗ ow c 9) iprop(snds m c 1 ∗ wgo m c 1 ∗ lateX m c ∗ lateA c) iprop(phi m c (t.val + 1) ∗ ow c (owN (t.val + 1)))
    (fun Q => by
      iintro ⟨#Hkn, Hop, Hl, Ho⟩ Hk
      iapply (open14 m c t ht) $$ [Hop Ho]
      · isplitr; · iexact Hkn
        isplitl [Hop]; · iexact Hop
        iexact Ho
      iintro %a0 %a1 %v2 %v4 %v25 ⟨Hg, Hs, Hw0, Hw1, Hx, Ho⟩
      iapply Hk $$ %a0 %a1 %v2 %v4 %v25
      rw [ht]
      isplitr; · iexact Hkn
      isplitl [Hg]; · iexact Hg
      isplitl [Hw0]; · iexact Hw0
      isplitl [Ho]; · iexact Ho
      isplitl [Hs]; · iexact Hs
      isplitl [Hw1]; · iexact Hw1
      isplitl [Hx]; · iexact Hx
      iexact Hl
      )
    (fun _ => by
      rw [ht, phi_mid m c (n := 0 + 1) (by decide) (by decide), owN_mid (n := 0 + 1) (by decide) (by decide)]
      unfold phiM
      rw [wnx_go m c (n := 0 + 1) (by decide), wfr_add_two m c 0]
      iintro ⟨#Hkn, Hg, Hw, Hy, Ha, Ho, Hs, Hw1, Hx, Hl⟩
      isplitl [Hg Hs Hw1 Hw Hy Ha Hx Hl]
      · isplitr; · iexact Hkn
        isplitl [Hg]; · iexact Hg
        isplitl [Hs]; · iexact Hs
        isplitl [Hw1]; · iexact Hw1
        isplitl [Hw]; · iexact Hw
        isplitl [Hy]; · iexact Hy
        isplitl [Ha]; · iexact Ha
        isplitl [Hx]; · iexact Hx
        iexact Hl
      iexact Ho
      )
    (fun h => absurd (ht.symm.trans h) (by decide))
  have e : phi m c t.val = phi0 m c := by rw [ht]; rfl
  have e2 : owN t.val = 9 := by rw [ht]; rfl
  rw [e, e2]
  unfold phi0
  iintro ⟨⟨#Hkn, Hop, Hy, Ha, Hl⟩, Ho⟩ Hk
  rw [ht] at hg
  rw [ht]
  iapply hg $$ [Hop Hl Ho Hy Ha]
  · isplitr; · iexact Hkn
    isplitl [Hop Hl Ho]
    · isplitl [Hop]; · iexact Hop
      isplitl [Hl]; · iexact Hl
      iexact Ho
    isplitl [Hy]; · iexact Hy
    iexact Ha
  iexact Hk

theorem next_run {Q : PUnit → sProp 𝕄} (t : Fin cfg0.N) (ht : 0 < t.val) :
    iprop(phi m c t.val ∗ ow c (owN t.val)) ⊢ iprop((iprop(phi m c (t.val + 1) ∗ ow c (owN (t.val + 1))) -∗ Q ⟨⟩) -∗ run (F := F) c (bodyAt0 t) Q) := by
  have hlt : t.val < 32 := lt_of_lt_of_eq t.isLt N_0
  have hg := body_run m c (Q := Q) t
    iprop((gall m c t.val ∗ snds m c t.val ∗ wfr m c (t.val + 1) ∗ ow c (obM t.val)) ∗ wgo m c t.val ∗ lateX m c ∗ lateA c)
    iprop(snds m c (t.val + 1) ∗ wnx m c (t.val + 1) ∗ lateX m c ∗ lateA c) iprop(phi m c (t.val + 1) ∗ ow c (owN (t.val + 1)))
    (fun Q => by
      iintro ⟨#Hkn, Hop, Hw, Hx, Hl⟩ Hk
      iapply (next14 m c t ht) $$ [Hop]
      · isplitr; · iexact Hkn
        iexact Hop
      iintro %a0 %a1 %v2 %v4 %v25 ⟨Hg, Hs, Hw1, Ho⟩
      iapply Hk $$ %a0 %a1 %v2 %v4 %v25
      isplitr; · iexact Hkn
      isplitl [Hg]; · iexact Hg
      isplitl [Hw]; · iexact Hw
      isplitl [Ho]; · iexact Ho
      isplitl [Hs]; · iexact Hs
      isplitl [Hw1]; · iexact Hw1
      isplitl [Hx]; · iexact Hx
      iexact Hl
      )
    (fun h31 => by
      rw [phi_mid m c (n := t.val + 1) (by omega) (by omega), owN_mid (n := t.val + 1) (by omega) (by omega)]
      unfold phiM
      rw [show t.val + 1 + 1 = t.val + 2 from rfl, wfr_add_two m c t.val]
      iintro ⟨#Hkn, Hg, Hw, Hy, Ha, Ho, Hs, Hw1, Hx, Hl⟩
      isplitl [Hg Hs Hw1 Hw Hy Ha Hx Hl]
      · isplitr; · iexact Hkn
        isplitl [Hg]; · iexact Hg
        isplitl [Hs]; · iexact Hs
        isplitl [Hw1]; · iexact Hw1
        isplitl [Hw]; · iexact Hw
        isplitl [Hy]; · iexact Hy
        isplitl [Ha]; · iexact Ha
        isplitl [Hx]; · iexact Hx
        iexact Hl
      iexact Ho
      )
    (fun h31 => by
      rw [h31, show phi m c (31 + 1) = phiE m c from rfl, show owN (31 + 1) = 0 from rfl, show obM (31 + 1) = 3 from rfl, show snds m c (31 + 1) = sndB c from rfl,
        show wnx m c (31 + 1) = wfr m c 32 from rfl]
      unfold phiE sndB lateX lateA fin0 fin1
      iintro ⟨#Hkn, Hg, Hw, Hy, Ha, Ho, ⟨Hs0, Hs1, Hsc, Hsp⟩, Hw1, ⟨Hx0, Hx1, Hb, Hd0, Hd1, Hd2⟩, ⟨Hoc, Hv0, Hv1, Hc0, Hc1, Hc2, Hr, Har⟩⟩
      isplitl [Ho Hsc Hsp Ha Hd0 Hd1 Hd2 Hc0 Hc1 Hc2 Hy Hoc Hv0 Hv1]
      · isplitr; · iexact Hkn
        isplitl [Ho]; · iexact Ho
        isplitl [Hsc Hsp]
        · isplitl [Hsc]; · iexact Hsc
          iexact Hsp
        isplitl [Ha]; · iexact Ha
        isplitl [Hd0 Hd1 Hd2]
        · isplitl [Hd0]; · iexact Hd0
          isplitl [Hd1]; · iexact Hd1
          iexact Hd2
        isplitl [Hc0 Hc1 Hc2]
        · isplitl [Hc0]; · iexact Hc0
          isplitl [Hc1]; · iexact Hc1
          iexact Hc2
        isplitl [Hy]; · iexact Hy
        isplitl [Hoc]; · iexact Hoc
        isplitl [Hv0]; · iexact Hv0
        iexact Hv1
      iintro ⟨Ho, Hf⟩
      isplitl [Hg Hw Hw1 Hs0 Hs1 Hx0 Hx1 Hb Hr Har Hf]
      · isplitl [Hg]; · iexact Hg
        isplitl [Hw]; · iexact Hw
        isplitl [Hw1]; · iexact Hw1
        isplitl [Hs0]; · iexact Hs0
        isplitl [Hs1]; · iexact Hs1
        isplitl [Hx0 Hx1 Hb]
        · isplitl [Hx0]; · iexact Hx0
          isplitl [Hx1]; · iexact Hx1
          iexact Hb
        isplitl [Hr Har]
        · isplitl [Hr]; · iexact Hr
          iexact Har
        iexact Hf
      iexact Ho
      )
  rw [phi_mid m c (n := t.val) (by omega) hlt, owN_mid (n := t.val) (by omega) hlt]
  unfold phiM
  rw [wnx_go m c hlt]
  iintro ⟨⟨#Hkn, Hg, Hs, Hw, Hw1, Hy, Ha, Hx, Hl⟩, Ho⟩ Hk
  iapply hg $$ [Hg Hs Hw Hw1 Hy Ha Hx Hl Ho]
  · isplitr; · iexact Hkn
    isplitl [Hg Hs Hw1 Ho Hw Hx Hl]
    · isplitl [Hg Hs Hw1 Ho]
      · isplitl [Hg]; · iexact Hg
        isplitl [Hs]; · iexact Hs
        isplitl [Hw1]; · iexact Hw1
        iexact Ho
      isplitl [Hw]; · iexact Hw
      isplitl [Hx]; · iexact Hx
      iexact Hl
    isplitl [Hy]; · iexact Hy
    iexact Ha
  iexact Hk

/-- One grid point. -/
theorem point_run {Q : PUnit → sProp 𝕄} (t : Fin cfg0.N) :
    iprop(phi m c t.val ∗ ow c (owN t.val)) ⊢ iprop((iprop(phi m c (t.val + 1) ∗ ow c (owN (t.val + 1))) -∗ Q ⟨⟩) -∗ run (F := F) c (bodyAt0 t) Q) := by
  rcases Nat.eq_zero_or_pos t.val with h | h
  · exact first_run m c t h
  · exact next_run m c t h

/-! ## As the pipeline states it -/

def dats (_ : Fin 1) (c : Dev nD) : Pipeline.Dat τ (Elt F) Unit ℕ UU ℕ cfg0 c where
  A w := w.elim0
  after w _ := w.elim0
  Φ t := phi m c t.val
  q _ := fullShare
  owed t := Ow c (owN t.val)

theorem body_obligation (c : Dev nD) : Pipeline.BodyObligationLoose (dats (F := F) m 0 c) (defs₀ (F := F)) 𝒱₀ () Set.univ := fun t => by
  have e : ∀ Ψ : Fin cfg0.W → sProp 𝕄, bigSep Finset.univ Ψ = iprop(emp) := fun Ψ => by
    rw [show (Finset.univ : Finset (Fin cfg0.W)) = ∅ by decide, bigSep_empty]
    rfl
  rw [e, e]
  show iprop(phi m c t.val ∗ (dats m 0 c).owesAt () t.castSucc ∗ emp) ⊢ run (F := F) c (bodyAt0 t) (fun _ => iprop(phi m c (t.val + 1) ∗ (dats m 0 c).owesAt () t.succ ∗ emp))
  unfold Pipeline.Dat.owesAt Pipeline.owesWithin
  iintro ⟨Hp, ⟨%W, -, Ho⟩, -⟩
  iapply (point_run m c t) $$ [Hp Ho]
  · isplitl [Hp]; · iexact Hp
    unfold ow
    iexists W
    iexact Ho
  unfold ow
  iintro ⟨Hp, ⟨%W', Ho⟩⟩
  isplitl [Hp]; · iexact Hp
  isplitl [Ho]
  · iexists W'
    isplitr; · ipureintro; exact fun _ _ => Or.inl trivial
    iexact Ho
  iempintro

end Cert.Run
-- ==== Proof.Deal.lean ====
/- What the launch deals each device: its semaphores as meeting places, and the rights and credits that go with them. -/
module

public import proofs.«01_k».proof.Proof.Body

@[expose] public section

set_option maxRecDepth 16384

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's own semaphores -/

def osem : Fin 20 → SemLoc sig :=
  ![.dma (xsem 0), .dma (xsem 1), .dma (wsem 0), .dma (wsem 1), .dma (ysem 0), .dma (ysem 1), .dma (sendS 0), .dma (sendS 1), .dma (sendS 2), .dma (recvS 0), .dma (recvS 1), .dma (recvS 2), .dma (recvS 3), .dma (asendS 0), .dma (asendS 1), .dma (asendS 2), .dma (arecvS 0), .dma (arecvS 1), .dma (arecvS 2), .dma (arecvS 3)]

theorem ownSemFacts : Pipeline.OwnSemFacts cfg0.spec osem := by decide +kernel

/-- The counters of the semaphores that no other device touches. -/
def idle6 (c : Dev nD) : sProp 𝕄 :=
  iprop(semVal ((c : Thread nD τ), .dma (xsem 0)) 0 ∗ semVal ((c : Thread nD τ), .dma (xsem 1)) 0 ∗ semVal ((c : Thread nD τ), .dma (wsem 0)) 0
    ∗ semVal ((c : Thread nD τ), .dma (wsem 1)) 0 ∗ semVal ((c : Thread nD τ), .dma (ysem 0)) 0 ∗ semVal ((c : Thread nD τ), .dma (ysem 1)) 0)

theorem cells_eq (Φ : Cell → sProp 𝕄) : bigSep Finset.univ Φ
    = iprop(Φ .bar ∗ Φ (.send 0) ∗ Φ (.send 1) ∗ Φ (.send 2) ∗ Φ (.recv 0) ∗ Φ (.recv 1) ∗ Φ (.recv 2) ∗ Φ (.recv 3)
      ∗ Φ (.asend 0) ∗ Φ (.asend 1) ∗ Φ (.asend 2) ∗ Φ (.arecv 0) ∗ Φ (.arecv 1) ∗ Φ (.arecv 2) ∗ Φ (.arecv 3)) :=
  bigSep_univ_eq_bigSepL Cell.list (by decide) (by decide) Φ
theorem devs_eq (Φ : Dev nD → sProp 𝕄) : bigSep Finset.univ Φ = iprop(Φ 0 ∗ Φ 1 ∗ Φ 2 ∗ Φ 3) :=
  bigSep_univ_eq_bigSepL [0, 1, 2, 3] (by decide) (by decide) Φ

theorem cells_split (c : Dev nD) (Φ : Cell → sProp 𝕄) : bigSep Finset.univ Φ
    ⊢ iprop(Φ .bar ∗ (Φ (.send 0) ∗ Φ (.send 1) ∗ Φ (.send 2)) ∗ (Φ (.recv c) ∗ Φ (.recv (pr c 0)) ∗ Φ (.recv (pr c 1)) ∗ Φ (.recv (pr c 2)))
      ∗ (Φ (.asend 0) ∗ Φ (.asend 1) ∗ Φ (.asend 2)) ∗ (Φ (.arecv c) ∗ Φ (.arecv (pr c 0)) ∗ Φ (.arecv (pr c 1)) ∗ Φ (.arecv (pr c 2)))) := by
  rw [cells_eq, ← all_devs c (fun k => Φ (.recv k)), ← all_devs c (fun k => Φ (.arecv k)), devs_eq, devs_eq]
  iintro ⟨Hb, Hs0, Hs1, Hs2, Hr0, Hr1, Hr2, Hr3, Ht0, Ht1, Ht2, Ha0, Ha1, Ha2, Ha3⟩
  isplitl [Hb]; · iexact Hb
  isplitl [Hs0 Hs1 Hs2]
  · isplitl [Hs0]; · iexact Hs0
    isplitl [Hs1]; · iexact Hs1
    iexact Hs2
  isplitl [Hr0 Hr1 Hr2 Hr3]
  · isplitl [Hr0]; · iexact Hr0
    isplitl [Hr1]; · iexact Hr1
    isplitl [Hr2]; · iexact Hr2
    iexact Hr3
  isplitl [Ht0 Ht1 Ht2]
  · isplitl [Ht0]; · iexact Ht0
    isplitl [Ht1]; · iexact Ht1
    iexact Ht2
  isplitl [Ha0]; · iexact Ha0
  isplitl [Ha1]; · iexact Ha1
  isplitl [Ha2]; · iexact Ha2
  iexact Ha3

theorem cells_join (c : Dev nD) (Φ : Cell → sProp 𝕄) :
    iprop(Φ .bar ∗ (Φ (.send 0) ∗ Φ (.send 1) ∗ Φ (.send 2)) ∗ (Φ (.recv c) ∗ Φ (.recv (pr c 0)) ∗ Φ (.recv (pr c 1)) ∗ Φ (.recv (pr c 2)))
      ∗ (Φ (.asend 0) ∗ Φ (.asend 1) ∗ Φ (.asend 2)) ∗ (Φ (.arecv c) ∗ Φ (.arecv (pr c 0)) ∗ Φ (.arecv (pr c 1)) ∗ Φ (.arecv (pr c 2)))) ⊢ bigSep Finset.univ Φ := by
  rw [cells_eq, ← all_devs c (fun k => Φ (.recv k)), ← all_devs c (fun k => Φ (.arecv k)), devs_eq, devs_eq]
  iintro ⟨Hb, ⟨Hs0, Hs1, Hs2⟩, ⟨Hr0, Hr1, Hr2, Hr3⟩, ⟨Ht0, Ht1, Ht2⟩, Ha0, Ha1, Ha2, Ha3⟩
  isplitl [Hb]; · iexact Hb
  isplitl [Hs0]; · iexact Hs0
  isplitl [Hs1]; · iexact Hs1
  isplitl [Hs2]; · iexact Hs2
  isplitl [Hr0]; · iexact Hr0
  isplitl [Hr1]; · iexact Hr1
  isplitl [Hr2]; · iexact Hr2
  isplitl [Hr3]; · iexact Hr3
  isplitl [Ht0]; · iexact Ht0
  isplitl [Ht1]; · iexact Ht1
  isplitl [Ht2]; · iexact Ht2
  isplitl [Ha0]; · iexact Ha0
  isplitl [Ha1]; · iexact Ha1
  isplitl [Ha2]; · iexact Ha2
  iexact Ha3

theorem unscopedSems0_eq (c : Dev nD) : (unscopedSems0 c : sProp 𝕄) = sv0 c .bar := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = iprop(semVal ((c : Thread nD τ), .dma (xsem 0)) 0 ∗ semVal ((c : Thread nD τ), .dma (xsem 1)) 0 ∗ semVal ((c : Thread nD τ), .dma (wsem 0)) 0
      ∗ semVal ((c : Thread nD τ), .dma (wsem 1)) 0 ∗ semVal ((c : Thread nD τ), .dma (ysem 0)) 0 ∗ semVal ((c : Thread nD τ), .dma (ysem 1)) 0
      ∗ sv0 c (.send 0) ∗ sv0 c (.send 1) ∗ sv0 c (.send 2) ∗ sv0 c (.recv 0) ∗ sv0 c (.recv 1) ∗ sv0 c (.recv 2) ∗ sv0 c (.recv 3)
      ∗ sv0 c (.asend 0) ∗ sv0 c (.asend 1) ∗ sv0 c (.asend 2) ∗ sv0 c (.arecv 0) ∗ sv0 c (.arecv 1) ∗ sv0 c (.arecv 2) ∗ sv0 c (.arecv 3)) := by
  rw [Pipeline.ownSems0_eq_of_list c osem [0, 1, 2, 3, 4, 5, 6, 7, 8, 9, 10, 11, 12, 13, 14, 15, 16, 17, 18, 19] (by decide) (by decide)]; rfl

theorem sems_open (c : Dev nD) : iprop(Pipeline.ownSems0 (Ix := Unit) (Name := ℕ) (U := UU) (Lvl := ℕ) (Val := Elt F) (τ := τ) osem c ∗ unscopedSems0 c)
    ⊢ iprop((bigSep Finset.univ fun k : Cell => (sv0 c k : sProp 𝕄)) ∗ idle6 c) := by
  rw [ownSems0_eq, unscopedSems0_eq, cells_eq]
  unfold idle6
  iintro ⟨⟨I0, I1, I2, I3, I4, I5, H⟩, Hb⟩
  isplitl [Hb H]
  · isplitl [Hb]; · iexact Hb
    iexact H
  isplitl [I0]; · iexact I0
  isplitl [I1]; · iexact I1
  isplitl [I2]; · iexact I2
  isplitl [I3]; · iexact I3
  isplitl [I4]; · iexact I4
  iexact I5

theorem sems_close (c : Dev nD) : iprop((bigSep Finset.univ fun k : Cell => (sv0 c k : sProp 𝕄)) ∗ idle6 c)
    ⊢ iprop(unscopedSems0 c ∗ Pipeline.ownSems0 (Ix := Unit) (Name := ℕ) (U := UU) (Lvl := ℕ) (Val := Elt F) (τ := τ) osem c) := by
  rw [ownSems0_eq, unscopedSems0_eq, cells_eq]
  unfold idle6
  iintro ⟨⟨Hb, H⟩, I0, I1, I2, I3, I4, I5⟩
  isplitl [Hb]; · iexact Hb
  isplitl [I0]; · iexact I0
  isplitl [I1]; · iexact I1
  isplitl [I2]; · iexact I2
  isplitl [I3]; · iexact I3
  isplitl [I4]; · iexact I4
  isplitl [I5]; · iexact I5
  iexact H

/-! ## The rights to pay -/

/-- The cells into which device `c` pays. -/
def payAt (c : Dev nD) (i : Fin 5) (j : Fin 3) : Dev nD × Cell :=
  match i with
  | 0 => (pr c j, .bar) | 1 => (c, .send j) | 2 => (pr c j, .recv c) | 3 => (c, .asend j) | 4 => (pr c j, .arecv c)

theorem payAt_injective : ∀ (c : Dev nD) (a b : Fin 5 × Fin 3), payAt c a.1 a.2 = payAt c b.1 b.2 → a = b := by decide +kernel

def tokOf (x : Dev nD × (Fin 5 × Fin 3)) : GSem nD τ sig × ℕ × Dev nD := (kcell (payAt x.1 x.2.1 x.2.2), 0, x.1)
theorem tokOf_injective : Function.Injective tokOf := fun a b h => by
  obtain ⟨c, a⟩ := a; obtain ⟨c', b⟩ := b
  have h1 : c = c' := congrArg (fun x => x.2.2) h
  subst h1
  have h2 := kcell_injective (congrArg (fun x => x.1) h)
  exact Prod.ext rfl (payAt_injective c a b h2)

def meetCells : Finset (GSem nD τ sig) := Finset.univ.map ⟨kcell, kcell_injective⟩
def meetToks : Finset (GSem nD τ sig × ℕ × Dev nD) := Finset.univ.map ⟨tokOf, tokOf_injective⟩

def u₀ : UU :=
  (initOf (Pipeline.cells cfgs cellOf_inj) (Pipeline.launchToks cfgs cellOf_inj), (initOf meetCells meetToks, 1))

/-- The rights of device `c` to pay. -/
def toks (c : Dev nD) : sProp 𝕄 :=
  iprop(tk (pr c 0) .bar c ∗ tk (pr c 1) .bar c ∗ tk (pr c 2) .bar c ∗ tk c (.send 0) c ∗ tk c (.send 1) c ∗ tk c (.send 2) c ∗ tk (pr c 0) (.recv c) c ∗ tk (pr c 1) (.recv c) c ∗ tk (pr c 2) (.recv c) c ∗ tk c (.asend 0) c ∗ tk c (.asend 1) c ∗ tk c (.asend 2) c ∗ tk (pr c 0) (.arecv c) c ∗ tk (pr c 1) (.arecv c) c ∗ tk (pr c 2) (.arecv c) c)

variable (m : (ℓ : Loc nD τ sig) → Buf (Elt F) ℓ)

/-- What the launch's resources give each device. -/
def G (c : Dev nD) : sProp 𝕄 :=
  iprop((bigSep Finset.univ fun k : Cell => roundState ER (sched m) (kcell (c, k)) 0)
    ∗ (bigSep Finset.univ fun k : Cell => iprop(atp c k ∗ reached ER (kcell (c, k)) 0)) ∗ toks c)

theorem meet_fund : BI.own (ER (initOf meetCells meetToks)) ⊢ (|==> bigSep Finset.univ (G m) : sProp 𝕄) := by
  have hX (Φ : GSem nD τ sig → sProp 𝕄) : bigSep meetCells Φ = bigSep Finset.univ fun c : Dev nD => bigSep Finset.univ fun k : Cell => Φ (kcell (c, k)) := by
    unfold meetCells; rw [bigSep_map, bigSep_univ_prod]; rfl
  have hT : bigSep meetToks (fun x => (dutyTok ER x.1 x.2.1 x.2.2 : sProp 𝕄)) = bigSep Finset.univ fun c : Dev nD => toks c := by
    unfold meetToks; rw [bigSep_map, bigSep_univ_prod]
    exact bigSep_congr fun c _ => by
      rw [bigSep_univ_eq_bigSepL [(0, 0), (0, 1), (0, 2), (1, 0), (1, 1), (1, 2), (2, 0), (2, 1), (2, 2), (3, 0), (3, 1), (3, 2), (4, 0), (4, 1), (4, 2)] (by decide) (by decide)]
      rfl
  iintro HX
  imod (Rounds.fund ER (sched m) meetCells meetToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  simp only [bigSep_sep']
  isplitl [Hst]; · iexact Hst
  isplitl [Hat Hr]
  · isplitl [Hat]; · iexact Hat
    iexact Hr
  iexact Htok

/-- What stays with device `c`: its places in its own cells, its rights to pay, and its other semaphores. -/
def mine (c : Dev nD) : sProp 𝕄 := iprop((bigSep Finset.univ fun k : Cell => (atp c k : sProp 𝕄)) ∗ toks c ∗ idle6 c)

/-- The cells are set up. -/
def setUp : sProp 𝕄 := iprop(∃ K : Dev nD × Cell → ℕ, bigSep Finset.univ fun ck : Dev nD × Cell => iprop(cellInv ER (sched m) (K ck) (kcell ck) ∗ reached ER (kcell ck) 0))
instance setUp_persistent : BI.Persistent (setUp (F := F) m) := by unfold setUp; infer_instance

def G' (c : Dev nD) : sProp 𝕄 := iprop(setUp m ∗ mine c)

theorem cells_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Cell => reached ER (kcell (c, k)) 0) ∗ mine c) := by
  unfold G mine
  rw [bigSep_sep']
  iintro ⟨Hos, Hus, Hst, ⟨Hat, Hr⟩, Htok⟩
  ihave Hv := (sems_open (F := F) c) $$ [Hos Hus]
  · isplitl [Hos] <;> iassumption
  icases Hv with ⟨Hv, Hid⟩
  imod (show iprop((bigSep Finset.univ fun k : Cell => semVal (kcell (c, k)) 0) ∗ bigSep Finset.univ fun k : Cell => roundState ER (sched m) (kcell (c, k)) 0)
      ⊢ (|={Set.univ}=> bigSep Finset.univ fun k => iprop(∃ κ : ℕ, cellInv ER (sched m) κ (kcell (c, k))) : sProp 𝕄) from by
        rw [← bigSep_sep']
        exact BIBase.Entails.trans (bigSep_mono fun k _ => BIBase.Entails.trans (Rounds.body_intro ER (sched m) (kcell (c, k))) inv_alloc) (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hid

theorem cells_shared :
    (bigSep Finset.univ fun c : Dev nD => iprop((bigSep Finset.univ fun k => iprop(∃ κ : ℕ, cellInv ER (sched m) κ (kcell (c, k))))
          ∗ (bigSep Finset.univ fun k : Cell => reached ER (kcell (c, k)) 0) ∗ mine c) : sProp 𝕄)
      ⊢ bigSep Finset.univ (G' m) := by
  rw [bigSep_sep', bigSep_sep', ← bigSep_univ_prod (fun ck : Dev nD × Cell => iprop(∃ κ : ℕ, cellInv ER (sched m) κ (kcell ck))),
    ← bigSep_univ_prod (fun ck : Dev nD × Cell => (reached ER (kcell ck) 0 : sProp 𝕄))]
  iintro ⟨HI, Hr, Hm⟩
  ihave HK := (BI.bigSep_exists_pi Finset.univ (fun (ck : Dev nD × Cell) (κ : ℕ) => (cellInv ER (sched m) κ (kcell ck) : sProp 𝕄))) $$ HI
  icases HK with ⟨%K, HI⟩
  ihave HS := (show iprop((bigSep Finset.univ fun ck : Dev nD × Cell => cellInv ER (sched m) (K ck) (kcell ck)) ∗ bigSep Finset.univ fun ck : Dev nD × Cell => reached ER (kcell ck) 0)
      ⊢ (setUp m : sProp 𝕄) from by
        unfold setUp
        rw [← bigSep_sep']
        iintro H
        iexists K
        iexact H) $$ [HI Hr]
  · isplitl [HI] <;> iassumption
  ihave HS := (show (setUp m : sProp 𝕄) ⊢ bigSep Finset.univ fun _ : Dev nD => setUp m from BI.bigSep_of_persistent Finset.univ (setUp m)) $$ HS
  unfold G'
  rw [bigSep_sep']
  isplitl [HS] <;> iassumption

theorem cells_all : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  BIBase.Entails.trans (BIBase.Entails.trans (bigSep_mono fun c _ => cells_alloc m c) (bigSep_fupd _ _)) (BI.fupd_mono (cells_shared m))

/-! ## The credit each device starts with -/

theorem Ow_at (d : Dev nD) (ck : Dev nD × Cell) : ∀ n, Ow d n (kcell ck) () = (∑ i ∈ Finset.range n, if debtCell d i = ck then 1 else 0) * amtN ck
  | 0 => by simp [Ow]
  | n + 1 => by
    rw [Ow_succ, Pi.add_apply, Finsupp.add_apply, Ow_at d ck n, Finset.sum_range_succ, Nat.add_mul, tallyAt_apply]
    congr 1
    by_cases h : debtCell d n = ck
    · subst h; rw [if_pos ⟨rfl, rfl⟩, if_pos rfl, Nat.one_mul]
    · rw [if_neg (fun hh => h (kcell_injective hh.1).symm), if_neg h, Nat.zero_mul]

/-- How many payments the devices together owe a cell. -/
def owedTo (ck : Dev nD × Cell) : ℕ := ∑ d : Dev nD, ∑ i ∈ Finset.range 9, if debtCell d i = ck then 1 else 0

theorem owedTo_bar : ∀ c : Dev nD, owedTo (c, .bar) = 3 := by decide +kernel
theorem owedTo_recv : ∀ (c : Dev nD) (j : Fin 3), owedTo (c, .recv (pr c j)) = 1 := by decide +kernel
theorem owedTo_arecv : ∀ (c : Dev nD) (j : Fin 3), owedTo (c, .arecv (pr c j)) = 1 := by decide +kernel

theorem launch_cell (ck : Dev nD × Cell) :
    tallyOn (kcell ck) (launchCredit (Pipeline.owing fun d => Ow d 9) 0 (kcell ck)) = (tallyAt (kcell ck) () (owedTo ck * amtN ck) : CellTallies nD τ sig Unit) := by
  unfold tallyAt; refine congrArg _ (Finsupp.ext fun u => ?_); cases u
  rw [Pipeline.launchCredit_owing, Finsupp.single_eq_same, Finset.sum_congr rfl fun d _ => Ow_at d ck 9, ← Finset.sum_mul]
  rfl

theorem creds_cells (c : Dev nD) : (Pipeline.launchCred (fun d => Ow d 9) c : sProp 𝕄)
    ⊢ bigSep Finset.univ fun k : Cell => cred (tallyAt (kcell (c, k)) () (owedTo (c, k) * amtN (c, k))) := by
  unfold Pipeline.launchCred
  refine BIBase.Entails.trans (bigSep_subset (Finset.subset_univ (Finset.univ.map ⟨csem, csem_injective⟩))) ?_
  rw [bigSep_map]
  refine bigSep_mono fun k _ => ?_
  exact Entails.of_eq (congrArg cred (launch_cell (c, k)))

theorem creds (c : Dev nD) : (Pipeline.launchCred (fun d => Ow d 9) c : sProp 𝕄)
    ⊢ iprop(cred (tallyAt (kcell (c, .bar)) () 3) ∗ (crd c (.recv (pr c 0)) ∗ crd c (.recv (pr c 1)) ∗ crd c (.recv (pr c 2)))
      ∗ (crd c (.arecv (pr c 0)) ∗ crd c (.arecv (pr c 1)) ∗ crd c (.arecv (pr c 2)))) := by
  have hb : (cred (tallyAt (kcell (c, .bar)) () (owedTo (c, .bar) * amtN (c, .bar))) : sProp 𝕄) = cred (tallyAt (kcell (c, .bar)) () 3) := by
    rw [owedTo_bar]; rfl
  have hr : ∀ j : Fin 3, (cred (tallyAt (kcell (c, .recv (pr c j))) () (owedTo (c, .recv (pr c j)) * amtN (c, .recv (pr c j)))) : sProp 𝕄) = crd c (.recv (pr c j)) := fun j => by
    rw [owedTo_recv, Nat.one_mul]
  have ha : ∀ j : Fin 3, (cred (tallyAt (kcell (c, .arecv (pr c j))) () (owedTo (c, .arecv (pr c j)) * amtN (c, .arecv (pr c j)))) : sProp 𝕄) = crd c (.arecv (pr c j)) := fun j => by
    rw [owedTo_arecv, Nat.one_mul]
  refine BIBase.Entails.trans (creds_cells c) (BIBase.Entails.trans (cells_split c _) ?_)
  rw [hb, hr 0, hr 1, hr 2, ha 0, ha 1, ha 2]
  iintro ⟨Hb, -, ⟨-, Hr⟩, -, -, Ha⟩
  isplitl [Hb]; · iexact Hb
  isplitl [Hr]; · iexact Hr
  iexact Ha

end Cert.Run

end
-- ==== Proof.Launch.lean ====
/- The launch: every run of the four devices ends, with the operands as they were and the result computed. -/
module

public import proofs.«01_k».proof.Proof.Deal
public import Idealize.ShloMosaic.Lib.Pipeline.CollectiveSegs
public import Idealize.ShloMosaic.Lib.Quiescent

@[expose] public section

set_option maxRecDepth 16384

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-! ## Cutting the scratch buffers, and putting them together again -/

theorem two_eq (Φ : Fin 2 → sProp 𝕄) : bigSep Finset.univ Φ = iprop(Φ 0 ∗ Φ 1) := bigSep_univ_eq_bigSepL [0, 1] (by decide) (by decide) Φ
theorem three_eq (Φ : Fin 3 → sProp 𝕄) : bigSep Finset.univ Φ = iprop(Φ 0 ∗ Φ 1 ∗ Φ 2) := bigSep_univ_eq_bigSepL [0, 1, 2] (by decide) (by decide) Φ

theorem whole_any (b : Ref sig .tc) :
    (iprop(∃ f : Buf (Elt F) ((c : Thread nD τ).loc b), ((c : Thread nD τ).loc b) ↦{fullShare} f) : sProp 𝕄) ⊢ any c (Memref.whole b) := by
  iintro ⟨%f, H⟩
  iexists f
  iapply (Entails.of_eq (owns_whole (c : Thread nD τ) b fullShare f).symm)
  iexact H
theorem any_whole (b : Ref sig .tc) :
    any c (Memref.whole b) ⊢ (iprop(∃ f : Buf (Elt F) ((c : Thread nD τ).loc b), ((c : Thread nD τ).loc b) ↦{fullShare} f) : sProp 𝕄) := by
  iintro ⟨%f, H⟩
  iexists f
  iapply (Entails.of_eq (owns_whole (c : Thread nD τ) b fullShare f))
  iexact H

theorem s_cut : any c sM ⊢ (iprop(any c (sS 0) ∗ any c (sS 1) ∗ any c (sS 2)) : sProp 𝕄) :=
  BIBase.Entails.trans (any_cut c sM sR (fun _ _ => rfl) sR_disj sR_cov) (Entails.of_eq (three_eq _))
theorem s_join : (iprop(any c (sS 0) ∗ any c (sS 1) ∗ any c (sS 2)) : sProp 𝕄) ⊢ any c sM :=
  BIBase.Entails.trans (Entails.of_eq (three_eq fun t => any c (sS t)).symm) (any_rects c sM sR (fun _ _ => rfl) sR_disj sR_cov)
theorem g_cut : any c gM ⊢ (iprop(any c (gS c) ∗ any c (gS (pr c 0)) ∗ any c (gS (pr c 1)) ∗ any c (gS (pr c 2))) : sProp 𝕄) :=
  BIBase.Entails.trans (any_cut c gM gR (fun _ _ => rfl) gR_disj gR_cov) (Entails.of_eq (all_devs c _))
theorem g_join : (iprop(any c (gS c) ∗ any c (gS (pr c 0)) ∗ any c (gS (pr c 1)) ∗ any c (gS (pr c 2))) : sProp 𝕄) ⊢ any c gM :=
  BIBase.Entails.trans (Entails.of_eq (all_devs c fun t => any c (gS t)).symm) (any_rects c gM gR (fun _ _ => rfl) gR_disj gR_cov)
theorem a_cut : any c aM ⊢ (iprop(any c (aS c) ∗ any c (aS (pr c 0)) ∗ any c (aS (pr c 1)) ∗ any c (aS (pr c 2))) : sProp 𝕄) :=
  BIBase.Entails.trans (any_cut c aM aR (fun _ _ => rfl) aR_disj aR_cov) (Entails.of_eq (all_devs c _))
theorem b_cut : any c bM ⊢ (iprop(any c (bS 0) ∗ any c (bS 1)) : sProp 𝕄) :=
  BIBase.Entails.trans (any_cut c bM bR (fun _ _ => rfl) bR_disj bR_cov) (Entails.of_eq (two_eq _))
theorem b_join : (iprop(any c (bS 0) ∗ any c (bS 1)) : sProp 𝕄) ⊢ any c bM :=
  BIBase.Entails.trans (Entails.of_eq (two_eq fun t => any c (bS t)).symm) (any_rects c bM bR (fun _ _ => rfl) bR_disj bR_cov)
theorem y_cut : any c yM ⊢ (bigSep Finset.univ fun n : Fin 8 => (any c (yC n) : sProp 𝕄)) :=
  any_cut c yM (fun t : Fin 8 => yR t) (fun _ _ => rfl) yR_disj yR_cov
theorem y_join : (bigSep Finset.univ fun n : Fin 8 => (any c (yC n) : sProp 𝕄)) ⊢ any c yM :=
  any_rects c yM (fun t : Fin 8 => yR t) (fun _ _ => rfl) yR_disj yR_cov
theorem o_cut : any c oM ⊢ (bigSep Finset.univ fun n : Fin 8 => (any c (oC n) : sProp 𝕄)) :=
  any_cut c oM (fun t : Fin 8 => yR t) (fun _ _ => rfl) yR_disj yR_cov

variable (m : (ℓ : Loc nD τ sig) → Buf (Elt F) ℓ)

theorem ycols_zero : (bigSep Finset.univ fun n : Fin 8 => (any c (yC n) : sProp 𝕄)) ⊢ ycols m c 0 := by
  unfold ycols
  refine bigSep_mono fun n _ => ?_
  have e : (ycol m c ((0 + 7 - n.val) / 8) n : sProp 𝕄) = any c (yC n) := by
    rw [show (0 + 7 - n.val) / 8 = 0 by omega]
    rfl
  exact Entails.of_eq e.symm

theorem xs_open : (owns (c : Thread nD τ) xM fullShare (xin m c) : sProp 𝕄) ⊢ iprop(owns (c : Thread nD τ) xM (half 0) (xin m c) ∗ owns (c : Thread nD τ) xM (half 1) (xin m c)) :=
  owns_share c xM fullShare (xin m c)
theorem xs_close : iprop(owns (c : Thread nD τ) xM (half 0) (xin m c) ∗ owns (c : Thread nD τ) xM (half 1) (xin m c)) ⊢ (owns (c : Thread nD τ) xM fullShare (xin m c) : sProp 𝕄) :=
  owns_unshare c xM fullShare (xin m c)
theorem ws_open : (owns (c : Thread nD τ) wM fullShare (win m c) : sProp 𝕄) ⊢ iprop(owns (c : Thread nD τ) wM (half 0) (win m c) ∗ owns (c : Thread nD τ) wM (half 1) (win m c)) :=
  owns_share c wM fullShare (win m c)
theorem ws_close : iprop(owns (c : Thread nD τ) wM (half 0) (win m c) ∗ owns (c : Thread nD τ) wM (half 1) (win m c)) ⊢ (owns (c : Thread nD τ) wM fullShare (win m c) : sProp 𝕄) :=
  owns_unshare c wM fullShare (win m c)

/-! ## Entering and leaving the kernel -/

/-- What a device enters the kernel with, besides the kernel's scratch. -/
def start : sProp 𝕄 :=
  iprop(known m ∗ toks c ∗ idle6 c ∗ atp c .bar ∗ (atp c (.send 0) ∗ atp c (.send 1) ∗ atp c (.send 2))
    ∗ (sv0 c (.recv c) ∗ atp c (.recv (pr c 0)) ∗ atp c (.recv (pr c 1)) ∗ atp c (.recv (pr c 2)))
    ∗ (atp c (.asend 0) ∗ atp c (.asend 1) ∗ atp c (.asend 2))
    ∗ (sv0 c (.arecv c) ∗ atp c (.arecv (pr c 0)) ∗ atp c (.arecv (pr c 1)) ∗ atp c (.arecv (pr c 2)))
    ∗ cred (tallyAt (kcell (c, .bar)) () 3) ∗ (crd c (.recv (pr c 0)) ∗ crd c (.recv (pr c 1)) ∗ crd c (.recv (pr c 2)))
    ∗ (crd c (.arecv (pr c 0)) ∗ crd c (.arecv (pr c 1)) ∗ crd c (.arecv (pr c 2)))
    ∗ owns (c : Thread nD τ) xM fullShare (xin m c) ∗ owns (c : Thread nD τ) wM fullShare (win m c) ∗ any c oM)

theorem start_intro (g : PrngReg) :
    iprop(Pipeline.unscopedRestP Pipeline.Prefetch.none cfg0.spec c (fun b => m ((c : Thread nD τ).loc b)) ∗ levAts L lv
        ∗ Pipeline.launchCred (fun d => Ow d 9) c ∗ prngReg c g ∗ G' m c)
      ⊢ |={Set.univ}=> iprop(start c m ∗ emp) := by
  rw [Pipeline.unscopedRestP_none, unscopedRest0_eq]
  unfold G' mine start
  iintro ⟨⟨Hx, Hw, Ho⟩, #Hlev, Hcr, -, #HS, Hat, Ht, Hid⟩
  ihave #Hkn := (show iprop(setUp m ∗ levAts L lv) ⊢ (known m : sProp 𝕄) from BIBase.Entails.rfl) $$ [HS Hlev]
  · isplitr; · iexact HS
    iexact Hlev
  ihave Hcr := (creds (F := F) c) $$ Hcr
  icases Hcr with ⟨Hc0, Hc1, Hc2⟩
  ihave Hat := (cells_split (F := F) c fun k => atp c k) $$ Hat
  icases Hat with ⟨Ha0, Ha1, ⟨Hr, Hr1⟩, Ha2, Hq, Hq1⟩
  imod (unused m (c, .recv c) (if_pos rfl)) $$ [Hr] with Hr
  · isplitr; · iexact Hkn
    iexact Hr
  imod (unused m (c, .arecv c) (if_pos rfl)) $$ [Hq] with Hq
  · isplitr; · iexact Hkn
    iexact Hq
  ihave Hx := (Entails.of_eq (owns_whole (c : Thread nD τ) main_arg0 fullShare (xin m c)).symm) $$ Hx
  ihave Hw := (Entails.of_eq (owns_whole (c : Thread nD τ) main_arg1 fullShare (win m c)).symm) $$ Hw
  ihave Ho := (show (((c : Thread nD τ).loc main_v1) ↦{fullShare} m ((c : Thread nD τ).loc main_v1) : sProp 𝕄) ⊢ any c oM from
    BIBase.Entails.trans (exists_intro (Φ := fun f : Buf (Elt F) ((c : Thread nD τ).loc main_v1) => (((c : Thread nD τ).loc main_v1) ↦{fullShare} f : sProp 𝕄)) _) (whole_any c main_v1)) $$ Ho
  imodintro
  isplitl
  · isplitr; · iexact Hkn
    isplitl [Ht]; · iexact Ht
    isplitl [Hid]; · iexact Hid
    isplitl [Ha0]; · iexact Ha0
    isplitl [Ha1]; · iexact Ha1
    isplitl [Hr Hr1]
    · isplitl [Hr]; · iexact Hr
      iexact Hr1
    isplitl [Ha2]; · iexact Ha2
    isplitl [Hq Hq1]
    · isplitl [Hq]; · iexact Hq
      iexact Hq1
    isplitl [Hc0]; · iexact Hc0
    isplitl [Hc1]; · iexact Hc1
    isplitl [Hc2]; · iexact Hc2
    isplitl [Hx]; · iexact Hx
    isplitl [Hw]; · iexact Hw
    iexact Ho
  iempintro

theorem enter : iprop(start c m ∗ Pipeline.prefHeld Pipeline.Prefetch.none c (fun _ => fullShare.right) (fun k => k.elim0) ∗ Pipeline.scopedRest cfg0.spec c)
    ⊢ phi0 m c := by
  rw [scopedRest0_eq]
  have ea : (aown m c 0 : sProp 𝕄) = any c (aS c) := rfl
  unfold start toks idle6 phi0 opn xidle widle slots gpend lateA xch
  rw [ea, ksrc_one, ksrc_two, ksrc_three]
  iintro ⟨⟨#Hkn, ⟨B0, B1, B2, T0, T1, T2, R0, R1, R2, AT0, AT1, AT2, AR0, AR1, AR2⟩, ⟨x0, x1, w0, w1, y0, y1⟩, pb, ⟨ps0, ps1, ps2⟩,
    ⟨vr, pr0, pr1, pr2⟩, ⟨pa0, pa1, pa2⟩, ⟨va, pq0, pq1, pq2⟩, cb, ⟨cr0, cr1, cr2⟩, ⟨cq0, cq1, cq2⟩, Hx, Hw, Ho⟩, -, S0, S1, S2, S3, S4⟩
  ihave S0 := (BIBase.Entails.trans (whole_any (F := F) c cc0_scratch0) (s_cut c)) $$ S0
  icases S0 with ⟨s0, s1, s2⟩
  ihave S1 := (BIBase.Entails.trans (whole_any (F := F) c cc0_scratch1) (g_cut c)) $$ S1
  icases S1 with ⟨g, g0, g1, g2⟩
  ihave S2 := (BIBase.Entails.trans (whole_any (F := F) c cc0_scratch2) (BIBase.Entails.trans (y_cut c) (ycols_zero c m))) $$ S2
  ihave S3 := (BIBase.Entails.trans (whole_any (F := F) c cc0_scratch3) (b_cut c)) $$ S3
  icases S3 with ⟨b0, b1⟩
  ihave S4 := (BIBase.Entails.trans (whole_any (F := F) c cc0_scratch4) (a_cut c)) $$ S4
  icases S4 with ⟨a, a0, a1, a2⟩
  ihave Ho := (o_cut c) $$ Ho
  ihave Hx := (xs_open c m) $$ Hx
  icases Hx with ⟨hx0, hx1⟩
  ihave Hw := (ws_open c m) $$ Hw
  icases Hw with ⟨hw0, hw1⟩
  isplitr; · iexact Hkn
  isplitl [B0 g0 a0 B1 g1 a1 B2 g2 a2 cb pb hx0 x0 hx1 x1 hw0 w0 hw1 w1 b0 b1 g s0 T0 R2 ps0 s1 T1 R0 ps1 s2 T2 R1 ps2 pr0 cr0 pr2 cr2 pr1 cr1]
  · isplitl [B0 g0 a0 B1 g1 a1 B2 g2 a2 cb pb]
    · isplitl [B0 g0 a0]
      · isplitl [B0]; · iexact B0
        isplitl [g0]; · iexact g0
        iexact a0
      isplitl [B1 g1 a1]
      · isplitl [B1]; · iexact B1
        isplitl [g1]; · iexact g1
        iexact a1
      isplitl [B2 g2 a2]
      · isplitl [B2]; · iexact B2
        isplitl [g2]; · iexact g2
        iexact a2
      isplitl [cb]; · iexact cb
      iexact pb
    isplitl [hx0 x0 hx1 x1 hw0 w0 hw1 w1 b0 b1 g]
    · isplitl [hx0 x0]
      · isplitl [hx0]; · iexact hx0
        iexact x0
      isplitl [hx1 x1]
      · isplitl [hx1]; · iexact hx1
        iexact x1
      isplitl [hw0 w0]
      · isplitl [hw0]; · iexact hw0
        iexact w0
      isplitl [hw1 w1]
      · isplitl [hw1]; · iexact hw1
        iexact w1
      isplitl [b0]; · iexact b0
      isplitl [b1]; · iexact b1
      iexact g
    isplitl [s0 T0 R2 ps0]
    · isplitl [s0]; · iexact s0
      isplitl [T0]; · iexact T0
      isplitl [R2]; · iexact R2
      iexact ps0
    isplitl [s1 T1 R0 ps1]
    · isplitl [s1]; · iexact s1
      isplitl [T1]; · iexact T1
      isplitl [R0]; · iexact R0
      iexact ps1
    isplitl [s2 T2 R1 ps2]
    · isplitl [s2]; · iexact s2
      isplitl [T2]; · iexact T2
      isplitl [R1]; · iexact R1
      iexact ps2
    isplitl [pr0 cr0]
    · isplitl [pr0]; · iexact pr0
      iexact cr0
    isplitl [pr2 cr2]
    · isplitl [pr2]; · iexact pr2
      iexact cr2
    isplitl [pr1]; · iexact pr1
    iexact cr1
  isplitl [S2]; · iexact S2
  isplitl [a]; · iexact a
  isplitl [Ho]; · iexact Ho
  isplitl [y0]; · iexact y0
  isplitl [y1]; · iexact y1
  isplitl [AT0 AR0 pa0 pq0 cq0]
  · isplitl [AT0]; · iexact AT0
    isplitl [AR0]; · iexact AR0
    isplitl [pa0]; · iexact pa0
    isplitl [pq0]; · iexact pq0
    iexact cq0
  isplitl [AT1 AR1 pa1 pq1 cq1]
  · isplitl [AT1]; · iexact AT1
    isplitl [AR1]; · iexact AR1
    isplitl [pa1]; · iexact pa1
    isplitl [pq1]; · iexact pq1
    iexact cq1
  isplitl [AT2 AR2 pa2 pq2 cq2]
  · isplitl [AT2]; · iexact AT2
    isplitl [AR2]; · iexact AR2
    isplitl [pa2]; · iexact pa2
    isplitl [pq2]; · iexact pq2
    iexact cq2
  isplitl [vr]; · iexact vr
  iexact va

/-- What a device keeps of the kernel: the operands as they were, the result, and the barrier's counter at zero. -/
def finish : sProp 𝕄 :=
  iprop(unscopedSems0 c ∗ owns (c : Thread nD τ) xM fullShare (xin m c) ∗ owns (c : Thread nD τ) wM fullShare (win m c)
    ∗ owns (c : Thread nD τ) oM fullShare (OUT m c))

theorem y_done : (bigSep Finset.univ fun n : Fin 8 => (yout m c n : sProp 𝕄)) ⊢ any c yM :=
  BIBase.Entails.trans (bigSep_mono fun n _ => any_of c (yC n) (outc m c n)) (y_join c)

theorem leave : phiE m c ⊢ iprop(finish c m ∗ Pipeline.ownSems0 osem c ∗ Pipeline.scopedRest cfg0.spec c) := by
  rw [scopedRest0_eq]
  have e31 : (wfr m c 31 : sProp 𝕄) = iprop(widle m c 1 ∗ any c (bS 1)) := rfl
  have e32 : (wfr m c 32 : sProp 𝕄) = iprop(widle m c 0 ∗ any c (bS 0)) := rfl
  unfold phiE gall fin2 finish
  rw [e31, e32, gat_have m c (show 8 * 1 < 32 by decide), gat_have m c (show 8 * 2 < 32 by decide), gat_have m c (show 8 * 3 < 32 by decide), bigSep_sep']
  unfold ghave xidle widle
  rw [ksrc_one, ksrc_two, ksrc_three]
  iintro ⟨⟨g, ⟨r0, g0⟩, ⟨r2, g2⟩, r1, g1⟩, ⟨⟨hw1, w1⟩, b1⟩, ⟨⟨hw0, w0⟩, b0⟩, ⟨v0, s0⟩, ⟨v1, s1⟩, ⟨⟨hx0, x0⟩, ⟨hx1, x1⟩, vb⟩, ⟨r, q⟩,
    ⟨v2, s2⟩, A, ⟨t0, t1, t2⟩, ⟨q0, q1, q2⟩, ⟨O, Y⟩, y0, y1⟩
  ihave g := (any_of c (gS c) (XB m c c)) $$ g
  ihave g0 := (any_of c (gS (pr c 0)) (XB m (pr c 0) c)) $$ g0
  ihave g1 := (any_of c (gS (pr c 1)) (XB m (pr c 1) c)) $$ g1
  ihave g2 := (any_of c (gS (pr c 2)) (XB m (pr c 2) c)) $$ g2
  ihave G := (BIBase.Entails.trans (g_join (F := F) c) (any_whole c cc0_scratch1)) $$ [g g0 g1 g2]
  · isplitl [g]; · iexact g
    isplitl [g0]; · iexact g0
    isplitl [g1]; · iexact g1
    iexact g2
  ihave S := (BIBase.Entails.trans (s_join (F := F) c) (any_whole c cc0_scratch0)) $$ [s0 s1 s2]
  · isplitl [s0]; · iexact s0
    isplitl [s1]; · iexact s1
    iexact s2
  ihave B := (BIBase.Entails.trans (b_join (F := F) c) (any_whole c cc0_scratch3)) $$ [b0 b1]
  · isplitl [b0]; · iexact b0
    iexact b1
  ihave Y := (BIBase.Entails.trans (y_done c m) (any_whole c cc0_scratch2)) $$ Y
  ihave A := (BIBase.Entails.trans (any_of c aM (GA m)) (any_whole c cc0_scratch4)) $$ A
  ihave O := (OUT_join m c) $$ O
  ihave X := (xs_close c m) $$ [hx0 hx1]
  · isplitl [hx0]; · iexact hx0
    iexact hx1
  ihave W := (ws_close c m) $$ [hw0 hw1]
  · isplitl [hw0]; · iexact hw0
    iexact hw1
  ihave V := (cells_join (F := F) c fun k => sv0 c k) $$ [vb v0 v1 v2 r r0 r1 r2 t0 t1 t2 q q0 q1 q2]
  · isplitl [vb]; · iexact vb
    isplitl [v0 v1 v2]
    · isplitl [v0]; · iexact v0
      isplitl [v1]; · iexact v1
      iexact v2
    isplitl [r r0 r1 r2]
    · isplitl [r]; · iexact r
      isplitl [r0]; · iexact r0
      isplitl [r1]; · iexact r1
      iexact r2
    isplitl [t0 t1 t2]
    · isplitl [t0]; · iexact t0
      isplitl [t1]; · iexact t1
      iexact t2
    isplitl [q]; · iexact q
    isplitl [q0]; · iexact q0
    isplitl [q1]; · iexact q1
    iexact q2
  ihave V := (sems_close (F := F) c) $$ [V x0 x1 w0 w1 y0 y1]
  · isplitl [V]; · iexact V
    unfold idle6
    isplitl [x0]; · iexact x0
    isplitl [x1]; · iexact x1
    isplitl [w0]; · iexact w0
    isplitl [w1]; · iexact w1
    isplitl [y0]; · iexact y0
    iexact y1
  icases V with ⟨Vu, Vo⟩
  isplitl [Vu X W O]
  · isplitl [Vu]; · iexact Vu
    isplitl [X]; · iexact X
    isplitl [W]; · iexact W
    iexact O
  isplitl [Vo]; · iexact Vo
  isplitl [S]; · iexact S
  isplitl [G]; · iexact G
  isplitl [Y]; · iexact Y
  isplitl [B]; · iexact B
  iexact A

/-- What the final memory is on device `c`. -/
def EndsAt (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = OUT m c)
  ∧ ∀ sm : SemLoc sig, sm.isScoped .tc = false → s.sem ((c.tc : Thread nD τ), sm) = 0

theorem finish_read (s' : Phys nD τ sig (Elt F)) : iprop(finish c m ∗ emp ∗ SI s') ⊢ |={Set.univ}=> iprop(⌜EndsAt c m s'.mem⌝ ∗ (SI s' : sProp 𝕄)) := by
  unfold finish
  rw [owns_whole, owns_whole, owns_whole]
  iintro ⟨⟨Hu, Hx, Hw, Ho⟩, -, HSI⟩
  icombine HSI Hx gives %hx
  icombine HSI Hw gives %hw
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ hx, Buf.eq_of_forall_mem_univ hw, Buf.eq_of_forall_mem_univ ho⟩, hs⟩
  iexact HSI

theorem waits : (levAts L lv : sProp 𝕄) ⊢ Pipeline.cellsWaits cfgs (dats m) () 0 c :=
  Pipeline.cellsWaits_intro cfgs (dats m) () 0 c fun w s t => w.elim0

/-! ## The run -/

/-- From any memory with all counters at zero, every run of the four devices ends; then each device's operands are as they
    were, its result is the computed one, and every counter is at zero. -/
theorem run_main (g : Dev nD → PrngReg) : θ_run (defs (F := F)) (onTc (τ := τ) (main (F := F))) ⟨m, fun _ => 0, g⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = OUT m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m g main
    (hmain := fun _ => rfl)
    (hbody := body_obligation m) (hne := fun w => w.elim0) (harr := arr_whole0) (hstage := stage_whole0) (hshare := fun c w => w.elim0)
    (hdistinct := winFacts0.arr_inj)
    (O₀ := fun c => Ow c 9) (howed₀ := fun _ => rfl) (howedN := fun _ => rfl)
    (L := L) (lv := lv) (hL := L_of_ne) (hwaits := fun c => waits c m)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (meet_fund m) $$ HX with HG
      imodintro
      isplitl [HP] <;> iassumption)
    (hglob := cells_all m)
    (hA := fun _ w => w.elim0) (hpf := fun _ k => k.elim0)
    (X := fun c => start c m) (Y := fun c => finish c m) (Z := fun _ => iprop(emp))
    (hX := fun c => start_intro c m (g c)) (hin := fun c => enter c m) (hout := fun c => leave c m)
    (QY := fun c s => EndsAt c m s) (hY := fun c s' => finish_read c m s')
    (hQ := fun _ h hs => ⟨fun c => (h c).2.2.1, sem_eq_zero hs fun c => (h c).2.2.2⟩)

end Cert.Run

end
-- ==== Proof.Frames.lean ====
/- The frame claims: every run ends, with the operands as they were and every counter at zero. -/
module

public import proofs.«01_k».proof.Defs
public import proofs.«01_k».proof.Proof.Gen.Kernel
public import proofs.«01_k».proof.Proof.Launch
public import proofs.«01_k».proof.Proof.Gen.ReferenceIdeal.Frame

@[expose] public section

set_option maxRecDepth 16384

noncomputable section

namespace Cert.Run

open Idealize.ShloMosaic Idealize.SL.Sem

theorem frame_ideal : Cert.quiescent_KernelIdeal := fun m g _ =>
  (θ_run Cert.KernelIdeal.defs _ _).mono (fun _ h => ⟨fun c => ⟨(h.1 c).1, (h.1 c).2.1⟩, h.2⟩) (run_main (F := Ideal) m g)

theorem frame_bits : Cert.quiescent_Kernel := fun m g _ =>
  (θ_run Cert.KernelIdeal.defs _ _).mono (fun _ h => ⟨fun c => ⟨(h.1 c).1, (h.1 c).2.1⟩, h.2⟩) (run_main (F := Bits) m g)

theorem frame_reference : Cert.quiescent_ReferenceIdeal := fun m g _ => Cert.ReferenceIdeal.Gen.frame m g

end Cert.Run

end
-- ==== Proof.Value.lean ====
/- What the kernel's launch leaves and what the reference computes, at exact arithmetic, element by element. -/
module

public import proofs.«01_k».proof.Proof.Contents
public import proofs.«01_k».proof.Proof.Gen.ReferenceIdeal.Frame
public import Idealize.ShloMosaic.Lib.MatmulPlain
public import Idealize.ShloMosaic.Lib.ValueLayout
public import Idealize.ShloMosaic.Lib.ValueIdxCore
public import Idealize.ShloMosaic.Lib.Layout
public import Idealize.ShloMosaic.Lib.Pointwise.Sums

@[expose] public section

set_option maxRecDepth 16384

noncomputable section

namespace Cert.Run

open Cert.KernelIdeal Cert.KernelIdeal.Gen
open Idealize.ShloMosaic hiding ix2 ix3 ix4 eq_ix2 eq_ix3 eq_ix4
open Idealize.ShloMosaic.ValueIdx
open Idealize.ShloMosaic.TcCoe
open scoped BigOperators

/-! ## Quantising one value -/

theorem bits_448 : (Ideal.ofBits .f32 0x43E00000#32 : EReal) = ((448 : ℝ) : EReal) := by
  simp [Ideal.ofBits, Ideal.ieee, -EReal.coe_mul]; norm_num
theorem bits_neg_448 : (Ideal.ofBits .f32 0xC3E00000#32 : EReal) = ((-448 : ℝ) : EReal) := by
  simp [Ideal.ofBits, Ideal.ieee, -EReal.coe_mul]; norm_num
theorem bits_zero : (Ideal.ofBits .f32 0x00000000#32 : EReal) = 0 := by simp [Ideal.ofBits, Ideal.ieee]
theorem bits_bot : (Ideal.ofBits .f32 0xFF800000#32 : EReal) = ⊥ := by simp [Ideal.ofBits, Ideal.ieee]

/-- A value between zero and the maximum, divided by the scale, clipped and scaled back, is the value multiplied by
    the scale's reciprocal and scaled back: the clip moves nothing. -/
theorem quant (y g : EReal) (h0 : 0 ≤ y) (hg : y ≤ g) :
    min ((448 : ℝ) : EReal) (max ((-448 : ℝ) : EReal) (Ideal.div y (Ideal.div g ((448 : ℝ) : EReal)))) * Ideal.div g ((448 : ℝ) : EReal)
      = y * Ideal.div ((448 : ℝ) : EReal) g * Ideal.div g ((448 : ℝ) : EReal) := by
  have h4 : (448 : ℝ) ≠ 0 := by norm_num
  rw [Ideal.div_coe h4 g]
  induction g using EReal.rec with
  | bot => exact absurd (le_trans h0 hg) (by simp)
  | top =>
    have e : (⊤ : EReal) * ((1 / 448 : ℝ) : EReal) = ⊤ := EReal.top_mul_coe_of_pos (by norm_num)
    rw [e]
    have e1 : ∀ z : EReal, Ideal.div z ⊤ = 0 := fun z => by simp [Ideal.div]
    rw [e1, e1, mul_zero, zero_mul]
    have e2 : max ((-448 : ℝ) : EReal) 0 = 0 := max_eq_right (by exact_mod_cast (by norm_num : (-448 : ℝ) ≤ 0))
    have e3 : min ((448 : ℝ) : EReal) 0 = 0 := min_eq_right (by exact_mod_cast (by norm_num : (0 : ℝ) ≤ 448))
    rw [e2, e3, zero_mul]
  | coe g =>
    induction y using EReal.rec with
    | bot => exact absurd h0 (by simp)
    | top => exact absurd hg (by simp)
    | coe y =>
      have h0' : (0 : ℝ) ≤ y := by exact_mod_cast h0
      have hg' : y ≤ g := by exact_mod_cast hg
      rcases eq_or_lt_of_le (le_trans h0' hg') with e | hp
      · subst e
        simp
      · have hs : g * (1 / 448) ≠ 0 := by positivity
        rw [← EReal.coe_mul, Ideal.div_coe hs, Ideal.div_coe (ne_of_gt hp), ← EReal.coe_mul, ← EReal.coe_mul, ← EReal.coe_mul,
          ← EReal.coe_mul]
        have hle : y * (1 / (g * (1 / 448))) ≤ 448 := by
          rw [show y * (1 / (g * (1 / 448))) = y / g * 448 by field_simp]
          nlinarith [div_le_one_of_le₀ hg' hp.le]
        have hge : (-448 : ℝ) ≤ y * (1 / (g * (1 / 448))) := le_trans (by norm_num : (-448 : ℝ) ≤ 0) (by positivity)
        rw [max_eq_right (by exact_mod_cast hge), min_eq_right (by exact_mod_cast hle), ← EReal.coe_mul]
        congr 1
        field_simp

/-! ## The largest element -/

/-- An element is at most the supremum of them all. -/
theorem le_all {ι : Type} [Fintype ι] (f : ι → EReal) (i : ι) : f i ≤ Finset.univ.sup f := Finset.le_sup (Finset.mem_univ i)
/-- A bound on every element is one on the supremum. -/
theorem all_le {ι : Type} [Fintype ι] (f : ι → EReal) (b : EReal) (h : ∀ i, f i ≤ b) : Finset.univ.sup f ≤ b := Finset.sup_le fun i _ => h i

/-- A maximum over every axis is the supremum of the elements. -/
theorem max_total {s t : Shape} {axes : List (Fin s.rank)} (src : FVec Ideal s .f32) (h : s.Reduces axes t) (ht : ∀ b, t.size b = 1)
    (hφ : FKind.Formats .f32) (hacc : (0xFF800000#32 : BitVec 32) = FKind.maximumf.neutral .f32 hφ) (j : t.Idx) :
    multiReduction .maximumf axes t src 0xFF800000#32 h hφ hacc j = (Finset.univ.sup src : EReal) := by
  rw [multiReduction_maximumf_eq_fold]
  rw [Finset.filter_true_of_mem fun i _ => funext fun b => Fin.ext (by
    have := (h.drop i b).isLt; have := (j b).isLt; have := ht b; omega)]
  show Finset.univ.fold max (Ideal.ofBits .f32 0xFF800000#32) src = _
  rw [bits_bot]
  rfl

/-- The one element of such a maximum, taken out of a shape of ones. -/
theorem extract_max {s t u : Shape} {axes : List (Fin s.rank)} (src : FVec Ideal s .f32) (h : s.Reduces axes t)
    (hφ : FKind.Formats .f32) (hc : t.ShapeCasts u) (ht : ∀ b, t.size b = 1) (pos : Fin u.rank → ℕ) (hp : ∀ a, pos a < u.size a)
    (hacc : (0xFF800000#32 : BitVec 32) = FKind.maximumf.neutral .f32 hφ := by exact rfl) :
    extractAt pos (shapeCast u (multiReduction .maximumf axes t src 0xFF800000#32 h hφ hacc) hc) hp = (Finset.univ.sup src : EReal) := by
  unfold extractAt shapeCast
  exact max_total _ _ ht _ _ _

theorem bcast {α : Type} (t : Shape) (x : α) (j : t.Idx) : broadcast t x j = x := rfl

/-- The four devices' shares, in the order in which device `c` adds them. -/
theorem sum_order (P : Dev nD → EReal) (c : Dev nD) :
    P (ksrc c 0) + P (ksrc c 1) + P (ksrc c 2) + P (ksrc c 3) = ∑ q : Dev nD, P q := by
  have e : ∑ q : Dev nD, P q = P 0 + P 1 + P 2 + P 3 := Fin.sum_univ_four P
  rw [e]
  rcases (by revert c; decide : c = 0 ∨ c = 1 ∨ c = 2 ∨ c = 3) with h | h | h | h <;> subst h
  · show P 0 + P 1 + P 3 + P 2 = _; ac_rfl
  · show P 1 + P 2 + P 0 + P 3 = _; ac_rfl
  · show P 2 + P 3 + P 1 + P 0 = _; ac_rfl
  · show P 3 + P 0 + P 2 + P 1 = _; ac_rfl

/-! ## The whole product -/

variable (X : Vec Ideal ⟨2, ![4096, 4096]⟩ .f32) (W : Vec Ideal S4096x8192 .f32)

/-- Element (`r`, `l`) of the product, negative values at zero. -/
def Y (r : Fin 4096) (l : Fin 8192) : EReal := max (∑ k : Fin 4096, (X (ix2 r k) : EReal) * W (ix2 k l)) 0

/-- Its largest element. -/
def top : EReal := Finset.univ.sup fun p : Fin 4096 × Fin 8192 => Y X W p.1 p.2

theorem Y_nonneg (r : Fin 4096) (l : Fin 8192) : 0 ≤ Y X W r l := le_max_right _ _
theorem Y_le_top (r : Fin 4096) (l : Fin 8192) : Y X W r l ≤ top X W := le_all (fun p : Fin 4096 × Fin 8192 => Y X W p.1 p.2) (r, l)

/-- Element (`r`, `l`) of the result. -/
def Z (r : Fin 4096) (l : Fin 8192) : EReal :=
  Y X W r l * Ideal.div ((448 : ℝ) : EReal) (top X W) * Ideal.div (top X W) ((448 : ℝ) : EReal)

/-! ## The reference -/

theorem ref_dot (r : Fin 4096) (l : Fin 8192) :
    matmul (F := Ideal) (φ₁ := .f32) (φ₂ := .f32) Cert.ReferenceIdeal.dot_S4096x4096_S4096x8192_S4096x8192_1_0_0_1_n_n none X W
      (constant (F := Ideal) S4096x8192 .f32 0x00000000#32) (ix2 r l) = ∑ k : Fin 4096, (X (ix2 r k) : EReal) * W (ix2 k l) := by
  refine (Ideal.matmul_plain_apply none X W (constant (F := Ideal) S4096x8192 .f32 0x00000000#32) r l).trans ?_
  show Ideal.ofBits .f32 0x00000000#32 + _ = _
  rw [bits_zero, zero_add]

/-- The reference's largest absolute value is the largest element: no element is negative. -/
theorem ref_top (v : FVec Ideal S4096x8192 .f32) (hv : ∀ r l, v (ix2 r l) = Y X W r l)
    (h : S4096x8192.ShapeCasts Cert.ReferenceIdeal.S1x4096x8192) (hr : Cert.ReferenceIdeal.S1x4096x8192.Reduces [1, 2] S1)
    (hφ : FKind.Formats .f32) (hacc : (0xFF800000#32 : BitVec 32) = FKind.maximumf.neutral .f32 hφ) (j : S1.Idx) :
    (multiReduction .maximumf [1, 2] S1 (shapeCast Cert.ReferenceIdeal.S1x4096x8192 (absf v) h) 0xFF800000#32 hr hφ hacc j : EReal) = top X W := by
  rw [max_total _ _ (by decide)]
  have e : ∀ r l, absf v (ix2 r l) = Y X W r l := fun r l => by
    show max (v (ix2 r l) : EReal) (-(v (ix2 r l))) = _
    rw [hv]
    exact max_eq_left (le_trans (by simpa using Y_nonneg X W r l) (Y_nonneg X W r l))
  apply le_antisymm
  · refine all_le _ _ fun i => ?_
    rw [eq_ix3 i]
    exact (shapeCast_ab_1ab_apply (absf v) h _ _ _).trans_le ((e _ _).trans_le (Y_le_top X W _ _))
  · refine all_le _ _ fun p => ?_
    have := le_all (shapeCast Cert.ReferenceIdeal.S1x4096x8192 (absf v) h) (ix3 (0 : Fin 1) p.1 p.2)
    rw [shapeCast_ab_1ab_apply, e] at this
    exact this

theorem ref_value (r : Fin 4096) (l : Fin 8192) : (Cert.ReferenceIdeal.Gen.k0_pay1 X W (ix2 r l) : EReal) = Z X W r l := by
  have hv : ∀ r l, maximumf (matmul (F := Ideal) (φ₁ := .f32) (φ₂ := .f32) Cert.ReferenceIdeal.dot_S4096x4096_S4096x8192_S4096x8192_1_0_0_1_n_n none X W
      (constant (F := Ideal) S4096x8192 .f32 0x00000000#32)) (broadcast S4096x8192 (Scalar.ofBits (F := Ideal) .f32 0x00000000#32)) (ix2 r l) = Y X W r l :=
    fun r l => by
      show max (matmul (F := Ideal) (φ₁ := .f32) (φ₂ := .f32) Cert.ReferenceIdeal.dot_S4096x4096_S4096x8192_S4096x8192_1_0_0_1_n_n none _ _ _ (ix2 r l) : EReal)
        (Ideal.ofBits .f32 0x00000000#32) = _
      rw [ref_dot, bits_zero]; rfl
  have ht := ref_top X W _ hv Cert.ReferenceIdeal.Gen.shapeCasts_S4096x8192_S1x4096x8192 Cert.ReferenceIdeal.Gen.reduces_S1x4096x8192_S1
  have hq := quant (Y X W r l) (top X W) (Y_nonneg X W r l) (Y_le_top X W r l)
  unfold Cert.ReferenceIdeal.Gen.k0_pay1
  generalize hV : maximumf (matmul (F := Ideal) (φ₁ := .f32) (φ₂ := .f32) Cert.ReferenceIdeal.dot_S4096x4096_S4096x8192_S4096x8192_1_0_0_1_n_n none X W
      (constant (F := Ideal) S4096x8192 .f32 0x00000000#32)) (broadcast S4096x8192 (Scalar.ofBits (F := Ideal) .f32 0x00000000#32)) = V at hv ht
  have hg : extractAt (α := Ideal .f32) ![0, 0, 0] (shapeCast Cert.ReferenceIdeal.S1x1x1 (multiReduction (F := Ideal) .maximumf [1, 2] S1
      (shapeCast Cert.ReferenceIdeal.S1x4096x8192 (absf V) Cert.ReferenceIdeal.Gen.shapeCasts_S4096x8192_S1x4096x8192) 0xFF800000#32
      Cert.ReferenceIdeal.Gen.reduces_S1x4096x8192_S1 (.inl rfl) rfl) Cert.ReferenceIdeal.Gen.shapeCasts_S1_S1x1x1)
      Cert.ReferenceIdeal.Gen.inpos_S1x1x1_p0_0_0 = top X W := by
    unfold extractAt shapeCast
    exact ht _ _ _
  rw [hg]
  refine Eq.trans ?_ hq
  rw [← bits_448, ← bits_neg_448, ← hv]
  rfl

/-! ## The kernel -/

set_option backward.proofsInPublic true in
/-- Row `i` of block `r`. -/
def row (r : Dev nD) (i : Fin 1024) : Fin 4096 := ⟨r.val * 1024 + i.val, by have h : r.val < 4 := r.isLt; have := i.isLt; omega⟩
set_option backward.proofsInPublic true in
/-- Column `j` of block `n`. -/
def col (n : Fin 8) (j : Fin 1024) : Fin 8192 := ⟨n.val * 1024 + j.val, by have := n.isLt; have := j.isLt; omega⟩

theorem row_all (r : Fin 4096) : ∃ d i, row d i = r :=
  ⟨⟨r.val / 1024, by have := r.isLt; show r.val / 1024 < 4; omega⟩, ⟨r.val % 1024, Nat.mod_lt _ (by decide)⟩, Fin.ext (by
    show r.val / 1024 * 1024 + r.val % 1024 = r.val; omega)⟩
theorem col_all (l : Fin 8192) : ∃ n j, col n j = l :=
  ⟨⟨l.val / 1024, by have := l.isLt; omega⟩, ⟨l.val % 1024, Nat.mod_lt _ (by decide)⟩, Fin.ext (by
    show l.val / 1024 * 1024 + l.val % 1024 = l.val; omega)⟩

theorem tiles_x : Layout.Tiles ⟨2, ![4096, 1024]⟩ ⟨2, ![4096, 4096]⟩ 1 4 := by decide
theorem tiles_o : Layout.Tiles ⟨2, ![1024, 8192]⟩ ⟨2, ![4096, 8192]⟩ 0 4 := by decide

section
variable (m : (ℓ : Loc nD τ sig) → Buf (Elt Ideal) ℓ)
  (hX : ∀ d, xin m d = Layout.block ⟨2, ![4096, 1024]⟩ ⟨2, ![4096, 4096]⟩ 1 4 d X tiles_x) (hW : ∀ d, win m d = W)

include hX in
theorem xblk_at (d r : Dev nD) (i k : Fin 1024) : xblk m d r (ix2 i k) = X (ix2 (row r i) (row d k)) := by
  unfold xblk
  rw [hX, Layout.block_apply]
  refine congrArg X (funext fun a => Fin.ext ?_)
  match a with
  | ⟨0, _⟩ => show 1024 * r.val + 1 * i.val = r.val * 1024 + i.val; omega
  | ⟨1, _⟩ => show d.val * 1024 + (0 + 1 * k.val) = d.val * 1024 + k.val; omega

include hW in
theorem wblk_at (d r : Dev nD) (n : Fin 8) (k j : Fin 1024) : wblk m d r n (ix2 k j) = W (ix2 (row r k) (col n j)) := by
  unfold wblk
  rw [hW]
  refine congrArg W (funext fun a => Fin.ext ?_)
  match a with
  | ⟨0, _⟩ => show 1024 * r.val + 1 * k.val = r.val * 1024 + k.val; omega
  | ⟨1, _⟩ => show 1024 * n.val + 1 * j.val = n.val * 1024 + j.val; omega

/-- The part of the sum that device `q`'s columns of the left operand make. -/
def piece (c q : Dev nD) (n : Fin 8) (i j : Fin 1024) : EReal :=
  ∑ k : Fin 1024, (X (ix2 (row c i) (row q k)) : EReal) * W (ix2 (row q k) (col n j))

theorem piece_sum (c : Dev nD) (n : Fin 8) (i j : Fin 1024) :
    ∑ q : Dev nD, piece X W c q n i j = ∑ k : Fin 4096, (X (ix2 (row c i) k) : EReal) * W (ix2 k (col n j)) :=
  (Fin.sum_univ_tiles 4 1024 rfl (fun k : Fin 4096 => (X (ix2 (row c i) k) : EReal) * W (ix2 k (col n j)))).symm

include hX hW in
theorem part_at (c : Dev nD) (s : ℕ) (n : Fin 8) (i j : Fin 1024) : part m c s n (ix2 i j) = piece X W c (ksrc c s) n i j := by
  unfold part k0_pay25
  refine (Ideal.matmul_plain_apply none _ _ (constant (F := Ideal) S1024x1024 .f32 0x00000000#32) i j).trans ?_
  show Ideal.ofBits .f32 0x00000000#32 + _ = _
  rw [bits_zero, zero_add]
  refine Finset.sum_congr rfl fun k _ => ?_
  have e1 : (shapeCast S1024x1024 (XB m (ksrc c s) c) shapeCasts_S1x1024x1024_S1024x1024) (ix2 i k) = X (ix2 (row c i) (row (ksrc c s) k)) := by
    refine (shapeCast_1ab_ab_apply _ _ i k).trans ?_
    unfold XB k0_pay7
    refine (shapeCast_ab_1ab_apply _ _ _ i k).trans ?_
    refine (shapeCast_1ab_ab_apply (up (xblk m (ksrc c s) c)) _ i k).trans ?_
    exact (shapeCast_ab_1ab_apply (xblk m (ksrc c s) c) _ _ i k).trans (xblk_at X m hX _ _ _ _)
  have e2 : (shapeCast S1024x1024 (WB m c s n) shapeCasts_S1x1024x1024_S1024x1024) (ix2 k j) = W (ix2 (row (ksrc c s) k) (col n j)) := by
    refine (shapeCast_1ab_ab_apply _ _ k j).trans ?_
    exact (shapeCast_ab_1ab_apply (wblk m c (ksrc c s) n) _ _ k j).trans (wblk_at W m hW _ _ _ _ _)
  exact congrArg₂ (fun a b : EReal => a * b) e1 e2

include hX hW in
/-- The last stage leaves the product's rows of the device. -/
theorem acc_at (c : Dev nD) (n : Fin 8) (i j : Fin 1024) : acc m c 3 n (ix2 i j) = Y X W (row c i) (col n j) := by
  have e : acc m c 3 n (ix2 i j) = max ((((part m c 0 n (ix2 i j) : EReal) + part m c 1 n (ix2 i j)) + part m c 2 n (ix2 i j))
      + part m c 3 n (ix2 i j)) (Ideal.ofBits .f32 0x00000000#32) := by
    show k0_pay3 (part m c 3 n) (k0_pay1 (part m c 2 n) (k0_pay1 (part m c 1 n) (k0_pay26 (XB m (ksrc c 0) c) (WB m c 0 n)))) (ix2 i j) = _
    unfold k0_pay3 k0_pay2 k0_pay1 k0_pay26
    simp only [shapeCast_self]
    rfl
  rw [e, bits_zero, part_at X W m hX hW, part_at X W m hX hW, part_at X W m hX hW, part_at X W m hX hW,
    sum_order (fun q => piece X W c q n i j) c, piece_sum]
  rfl

include hX hW in
theorem top_block (c : Dev nD) (n : Fin 8) :
    (Finset.univ.sup fun i => (acc m c 3 n i : EReal)) = Finset.univ.sup fun p : Fin 1024 × Fin 1024 => Y X W (row c p.1) (col n p.2) := by
  apply le_antisymm
  · refine all_le _ _ fun i => ?_
    refine le_of_eq_of_le ((congrArg (acc m c 3 n) (eq_ix2 i)).trans (acc_at X W m hX hW c n (i 0) (i 1))) ?_
    exact le_all (fun p : Fin 1024 × Fin 1024 => Y X W (row c p.1) (col n p.2)) (i 0, i 1)
  · refine all_le _ _ fun p => ?_
    rw [← acc_at X W m hX hW]
    exact le_all (fun i => (acc m c 3 n i : EReal)) (ix2 p.1 p.2)

/-- A block's largest element, at every position of the array of maxima. -/
theorem pay4_at (a b : Vec Ideal S1024x1024 .f32) (p : S8x128.Idx) : (k0_pay4 a b p : EReal) = Finset.univ.sup fun i => (k0_pay3 a b i : EReal) := by
  have h3 : k0_pay3 a b = k0_pay2 a b := by
    unfold k0_pay3
    exact shapeCast_self _ _
  rw [h3]
  unfold k0_pay4
  generalize k0_pay2 a b = v
  refine (bcast _ _ _).trans ?_
  refine (extract_max _ reduces_S1x1024x1024_S1 _ shapeCasts_S1_S1x1x1 (by decide) _ inpos_S1x1x1_p0_0_0).trans ?_
  apply le_antisymm
  · refine all_le _ _ fun i => ?_
    rw [eq_ix3 i]
    exact (shapeCast_ab_1ab_apply v _ _ _ _).trans_le (le_all (fun i => (v i : EReal)) _)
  · refine all_le _ _ fun i => ?_
    refine le_of_eq_of_le ((congrArg v (eq_ix2 i)).trans (shapeCast_ab_1ab_apply v shapeCasts_S1024x1024_S1x1024x1024 0 (i 0) (i 1)).symm) ?_
    exact le_all (shapeCast S1x1024x1024 v shapeCasts_S1024x1024_S1x1024x1024) _

/-- The device's maximum after `k + 1` column blocks. -/
theorem amax_at (c : Dev nD) (k : ℕ) (p : S1x8x128.Idx) :
    (amax m c k p : EReal) = (Finset.range (k + 1)).sup fun n => Finset.univ.sup fun i => (acc m c 3 (nF n) i : EReal) := by
  induction k generalizing p with
  | zero =>
    rw [eq_ix3 p]
    show (k0_pay5 (part m c 3 0) (acc m c 2 0) _ : EReal) = _
    unfold k0_pay5
    refine (shapeCast_ab_1ab_apply _ _ _ _ _).trans ((pay4_at _ _ _).trans ?_)
    simp
    rfl
  | succ k ih =>
    rw [Finset.range_add_one, Finset.sup_insert, eq_ix3 p]
    show (k0_pay6 (part m c 3 (nF (k + 1))) (acc m c 2 (nF (k + 1))) (amax m c k) _ : EReal) = _
    unfold k0_pay6
    refine (shapeCast_ab_1ab_apply _ _ _ _ _).trans ?_
    refine Eq.trans ?_ (max_comm _ _)
    exact congrArg₂ (fun a b : EReal => max a b) ((shapeCast_1ab_ab_apply (amax m c k) _ _ _).trans (ih _)) (pay4_at _ _ _)

include hX hW in
/-- The maximum of the gathered maxima is the largest element of the whole product. -/
theorem pay11_at : (k0_pay11 (GA m) : EReal) = top X W := by
  unfold k0_pay11
  refine (extract_max _ reduces_S1x4x8x128_S1 _ shapeCasts_S1_S1x1x1x1 (by decide) _ inpos_S1x1x1x1_p0_0_0_0).trans ?_
  have hG : ∀ d a b, (GA m (ix3 d a b) : EReal) = (Finset.range 8).sup fun n => Finset.univ.sup fun p : Fin 1024 × Fin 1024 => Y X W (row d p.1) (col (nF n) p.2) := by
    intro d a b
    refine (amax_at m d 7 _).trans ?_
    exact Finset.sup_congr rfl fun n _ => top_block X W m hX hW d (nF n)
  apply le_antisymm
  · refine all_le _ _ fun i => ?_
    rw [eq_ix4 i]
    refine (shapeCast_abc_1abc_apply (GA m) _ _ _ _ _).trans_le ((hG _ _ _).trans_le ?_)
    exact Finset.sup_le fun n _ => all_le _ _ fun p => Y_le_top X W _ _
  · refine all_le _ _ fun p => ?_
    obtain ⟨d, i, hi⟩ := row_all p.1
    obtain ⟨n, j, hj⟩ := col_all p.2
    rw [← hi, ← hj]
    have h1 := le_all (shapeCast S1x4x8x128 (GA m) shapeCasts_S4x8x128_S1x4x8x128) (ix4 (0 : Fin 1) d (0 : Fin 8) (0 : Fin 128))
    rw [shapeCast_abc_1abc_apply, hG] at h1
    refine le_trans ?_ h1
    have hn : nF n.val = n := Fin.ext (Nat.mod_eq_of_lt n.isLt)
    have h2 := Finset.le_sup (f := fun n => Finset.univ.sup fun p : Fin 1024 × Fin 1024 => Y X W (row d p.1) (col (nF n) p.2))
      (Finset.mem_range.2 n.isLt)
    refine le_trans ?_ h2
    show _ ≤ Finset.univ.sup fun p : Fin 1024 × Fin 1024 => Y X W (row d p.1) (col (nF n.val) p.2)
    rw [hn]
    exact le_all (fun p : Fin 1024 × Fin 1024 => Y X W (row d p.1) (col n p.2)) (i, j)

theorem pay14_at (G : Vec Ideal S4x8x128 .f32) (A : Vec Ideal S1024x1024 .f32) (i : S1024x1024.Idx) :
    (k0_pay14 G A i : EReal) = (A i : EReal) * Ideal.div (Ideal.ofBits .f32 0x43E00000#32) (k0_pay11 G)
      * Ideal.div (k0_pay11 G) (Ideal.ofBits .f32 0x43E00000#32) := by
  unfold k0_pay14 k0_pay12 k0_pay13
  rw [shapeCast_self]
  generalize k0_pay11 G = g
  rfl

include hX hW in
theorem outc_at (c : Dev nD) (n : Fin 8) (i j : Fin 1024) : (outc m c n (ix2 i j) : EReal) = Z X W (row c i) (col n j) := by
  refine (pay14_at (GA m) (acc m c 3 n) (ix2 i j)).trans ?_
  rw [pay11_at X W m hX hW, acc_at X W m hX hW, bits_448]
  rfl

include hX hW in
/-- The device's rows of the result are its block of the reference's result. -/
theorem OUT_eq (c : Dev nD) :
    OUT m c = Layout.block ⟨2, ![1024, 8192]⟩ ⟨2, ![4096, 8192]⟩ 0 4 c (Cert.ReferenceIdeal.Gen.k0_pay1 X W) tiles_o := by
  funext i
  rw [Layout.block_apply]
  have e : ∀ (r : Fin 4096) (l : Fin 8192), row c (i 0) = r → col ⟨(i 1).val / 1024, by have h : (i 1).val < 8192 := (i 1).isLt; omega⟩ ⟨(i 1).val % 1024, Nat.mod_lt _ (by decide)⟩ = l →
      OUT m c i = Cert.ReferenceIdeal.Gen.k0_pay1 X W (ix2 r l) := by
    rintro r l rfl rfl
    rw [ref_value]
    refine Eq.trans ?_ (outc_at X W m hX hW c _ (i 0) ⟨(i 1).val % 1024, Nat.mod_lt _ (by decide)⟩)
    unfold OUT
    congr 1
    funext a
    match a with
    | ⟨0, _⟩ => rfl
    | ⟨1, _⟩ => rfl
  rw [eq_ix2 (tiles_o.idx c i)]
  refine e _ _ (Fin.ext ?_) (Fin.ext ?_)
  · rfl
  · show (i 1).val / 1024 * 1024 + (i 1).val % 1024 = (i 1).val
    omega

end

end Cert.Run

end
-- ==== Proof.RefRun.lean ====
/- What the reference's result array holds when its launch has ended. -/
module

public import proofs.«01_k».proof.Proof.Gen.ReferenceIdeal.Frame
public import Idealize.ShloMosaic.Lib.Pipeline.ValueKit.Basic
public import Idealize.ShloMosaic.Lib.Pipeline.ValueKit.Geometry

@[expose] public section

set_option maxRecDepth 16384

noncomputable section

namespace Cert.Run

open Cert.ReferenceIdeal Cert.ReferenceIdeal.Gen
open Idealize.ShloMosaic Idealize.SL.Sem
open Idealize.ShloMosaic.TcCoe

variable {F : FTy → Type} [FloatOps F] (m : (ℓ : Loc nD τ sig) → Buf (Elt F) ℓ) (c : Dev nD)

/-- The reference's only grid point. -/
def pt : Fin cfg0.N := ⟨0, by decide⟩

/-- Each operand's one block is the whole operand. -/
theorem ref_in0 : iblk m c 0 pt = m ((c : Thread nD τ).loc main_arg0) :=
  Memref.read_access_unit_zero (Elt F) main_arg0
    (show (fun a => (win0_0.index pt) a * main_arg0.ty.shape.size a) = fun _ => 0 from
      funext fun a => by fin_cases a <;> decide) (fun a => by fin_cases a <;> decide) _
theorem ref_in1 : iblk m c 1 pt = m ((c : Thread nD τ).loc main_arg1) :=
  Memref.read_access_unit_zero (Elt F) main_arg1
    (show (fun a => (win0_1.index pt) a * main_arg1.ty.shape.size a) = fun _ => 0 from
      funext fun a => by fin_cases a <;> decide) (fun a => by fin_cases a <;> decide) _

/-- The body stores its whole result at once. -/
theorem ref_out (x : Vec F S4096x4096 .f32) (w : Vec F S4096x8192 .f32) : out0_2 x w = k0_pay1 x w := by
  unfold out0_2
  rw [View.canon_cons_unit_lit _ _ _ (by decide), View.ld_unit_lit _ _ (by decide), View.ld_unit_lit _ _ (by decide)]

/-- The result array ends at the body's function of the operands. -/
theorem ref_arr : (dats m 0 c).arrAt 2 cfg0.N
    = k0_pay1 (m ((c : Thread nD τ).loc main_arg0)) (m ((c : Thread nD τ).loc main_arg1)) := by
  refine (dats m 0 c).arrAt_eq_of_after_last 2 pt (by decide +kernel) _ fun j => ?_
  rw [after0_2, ref_in0, ref_in1, ref_out]
  rfl

/-- The reference runs, its result as above and its operands as they were. -/
theorem ref_run (g : Dev nD → PrngReg) : θ_run defs (onTc (τ := τ) (main (F := F))) ⟨m, fun _ => 0, g⟩ (fun r => ∀ c : Dev nD,
    r.2.mem ((c : Thread nD τ).loc main_v0) = k0_pay1 (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨((h c).1 2).trans (ref_arr m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m g)

end Cert.Run

end
-- ==== Proof.Algebraic.lean ====
/- At exact arithmetic each device ends with its block of the reference's result. -/
module

public import proofs.«01_k».proof.Defs
public import proofs.«01_k».proof.Proof.Launch
public import proofs.«01_k».proof.Proof.Value
public import proofs.«01_k».proof.Proof.RefRun

@[expose] public section

set_option maxRecDepth 16384

noncomputable section

namespace Cert.Run

open Idealize.ShloMosaic Idealize.SL.Sem

theorem algebraic : Cert.algebraic_KernelIdeal_ReferenceIdeal := by
  intro m g m' g' _ h
  have hX : ∀ d, xin m d = Layout.block ⟨2, ![4096, 1024]⟩ ⟨2, ![4096, 4096]⟩ 1 4 d
      (m' (((0 : Dev Cert.ReferenceIdeal.nD).tc : Thread Cert.ReferenceIdeal.nD Cert.ReferenceIdeal.τ).loc Cert.ReferenceIdeal.main_arg0)) := fun d => (h d).1
  have hW : ∀ d, win m d = m' (((0 : Dev Cert.ReferenceIdeal.nD).tc : Thread Cert.ReferenceIdeal.nD Cert.ReferenceIdeal.τ).loc Cert.ReferenceIdeal.main_arg1) :=
    fun d => (h d).2
  exact ⟨Cert.ReferenceIdeal.Gen.k0_pay1
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ hr c => ⟨(hr.1 c).2.2.trans (OUT_eq _ _ m hX hW c), (hr.1 c).1, (hr.1 c).2.1⟩)
      (run_main (F := Ideal) m g),
    (θ_run Cert.ReferenceIdeal.defs _ _).mono (fun _ hr => hr 0) (ref_run (F := Ideal) m' g')⟩

end Cert.Run

end
-- ==== Proof.lean ====
/- The claim's proof: the frames of the three programs, the idealization's step, and the result's value. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Run.frame_bits,
    Cert.Run.frame_ideal, Cert.Run.frame_reference, trivial, Cert.Run.algebraic⟩

end Cert.Proof
